-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_v81) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v95) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v45_0)) (v1 : (c : Dev Cert.Kernel6Ideal.nD) → Buf (Elt Ideal) ((c.tc : Thread Cert.Kernel6Ideal.nD Cert.Kernel6Ideal.τ).loc Cert.Kernel6Ideal.main_v45_1)) (v2 : (c : Dev Cert.Kernel6Ideal.nD) → Buf (Elt Ideal) ((c.tc : Thread Cert.Kernel6Ideal.nD Cert.Kernel6Ideal.τ).loc Cert.Kernel6Ideal.main_v45_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45_0) = v0 c
          ∧ r.2.mem ((c.tc : Thread Cert.Kernel6Ideal.nD Cert.Kernel6Ideal.τ).loc Cert.Kernel6Ideal.main_v45_1) = v1 c
          ∧ r.2.mem ((c.tc : Thread Cert.Kernel6Ideal.nD Cert.Kernel6Ideal.τ).loc Cert.Kernel6Ideal.main_v45_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_v83) = v1 c
          ∧ r.2.mem ((c.tc : Thread Cert.Reference6Ideal.nD Cert.Reference6Ideal.τ).loc Cert.Reference6Ideal.main_v84) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v11_0)) (v1 : (c : Dev Cert.Kernel8Ideal.nD) → Buf (Elt Ideal) ((c.tc : Thread Cert.Kernel8Ideal.nD Cert.Kernel8Ideal.τ).loc Cert.Kernel8Ideal.main_v11_1)) (v2 : (c : Dev Cert.Kernel8Ideal.nD) → Buf (Elt Ideal) ((c.tc : Thread Cert.Kernel8Ideal.nD Cert.Kernel8Ideal.τ).loc Cert.Kernel8Ideal.main_v11_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11_0) = v0 c
          ∧ r.2.mem ((c.tc : Thread Cert.Kernel8Ideal.nD Cert.Kernel8Ideal.τ).loc Cert.Kernel8Ideal.main_v11_1) = v1 c
          ∧ r.2.mem ((c.tc : Thread Cert.Kernel8Ideal.nD Cert.Kernel8Ideal.τ).loc Cert.Kernel8Ideal.main_v11_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16x2048x1024 : Shape := ⟨3, ![16, 2048, 1024]⟩
abbrev S16x256x1024 : Shape := ⟨3, ![16, 256, 1024]⟩
abbrev S1x64 : Shape := ⟨2, ![1, 64]⟩
abbrev S1x128 : Shape := ⟨2, ![1, 128]⟩
abbrev S_ : Shape := ⟨0, ![]⟩

class Facts : Prop where
  bcast_S_S16x2048x1024 : S_.BroadcastsInDim S16x2048x1024 (![] : Fin 0 → Fin S16x2048x1024.rank)
  bcast_S_S16x256x1024 : S_.BroadcastsInDim S16x256x1024 (![] : Fin 0 → Fin S16x256x1024.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_arg8 : FVec F S1x64 .f32) (main_v2 : IVec S16x2048x1024 1) (main_v5 : IVec S16x2048x1024 1) (main_v8 : IVec S16x2048x1024 1) (main_v11 : IVec S16x256x1024 1) (main_v14 : IVec S16x256x1024 1) (main_v17 : IVec S1x64 1) : IVec S16x2048x1024 1 × IVec S16x2048x1024 1 × IVec S16x2048x1024 1 × IVec S16x256x1024 1 × IVec S16x256x1024 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_v24 : FVec F S1x64 .f32 := Host.absf main_arg8
  let main_cst_7 : FVec F S_ .f32 := constant S_ .f32 0x7F800000#32
  let main_v25 : FVec F S1x64 .f32 := broadcastInDim S1x64 ![] bcast_S_S1x64 main_cst_7
  let main_v26 : IVec S1x64 1 := cmpf .olt main_v24 main_v25
  (main_v2, main_v5, main_v8, main_v11, main_v14, main_v17, main_v20, main_v23, main_v26)

def fn {F : FTy → Type} [FloatOps F] (main_arg0 : FVec F S16x2048x1024 .f32) (main_arg1 : FVec F S16x2048x1024 .f32) (main_arg2 : FVec F S16x2048x1024 .f32) (main_arg3 : FVec F S16x256x1024 .f32) (main_arg4 : FVec F S16x256x1024 .f32) (main_arg5 : FVec F S1x64 .f32) (main_arg6 : FVec F S1x64 .f32) (main_arg7 : FVec F S1x64 .f32) (main_arg8 : FVec F S1x64 .f32) (main_arg9 : FVec F S1x128 .f32) : IVec S16x2048x1024 1 × IVec S16x2048x1024 1 × IVec S16x2048x1024 1 × IVec S16x256x1024 1 × IVec S16x256x1024 1 × IVec S1x64 1 × IVec S1x64 1 × IVec S1x64 1 × IVec S1x64 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x1024 .f32 := Host.absf main_arg1
  let main_cst_0 : FVec F S_ .f32 := constant S_ .f32 0x7F800000#32
  let main_v4 : FVec F S16x2048x1024 .f32 := broadcastInDim S16x2048x1024 ![] bcast_S_S16x2048x1024 main_cst_0
  let main_v5 : IVec S16x2048x1024 1 := cmpf .olt main_v3 main_v4
  let main_v6 : FVec F S16x2048x1024 .f32 := Host.absf main_arg2
  let main_cst_1 : FVec F S_ .f32 := constant S_ .f32 0x7F800000#32
  let main_v7 : FVec F S16x2048x1024 .f32 := broadcastInDim S16x2048x1024 ![] bcast_S_S16x2048x1024 main_cst_1
  let main_v8 : IVec S16x2048x1024 1 := cmpf .olt main_v6 main_v7
  let main_v9 : FVec F S16x256x1024 .f32 := Host.absf main_arg3
  let main_cst_2 : FVec F S_ .f32 := constant S_ .f32 0x7F800000#32
  let main_v10 : FVec F S16x256x1024 .f32 := broadcastInDim S16x256x1024 ![] bcast_S_S16x256x1024 main_cst_2
  let main_v11 : IVec S16x256x1024 1 := cmpf .olt main_v9 main_v10
  let main_v12 : FVec F S16x256x1024 .f32 := Host.absf main_arg4
  let main_cst_3 : FVec F S_ .f32 := constant S_ .f32 0x7F800000#32
  let main_v13 : FVec F S16x256x1024 .f32 := broadcastInDim S16x256x1024 ![] bcast_S_S16x256x1024 main_cst_3
  let main_v14 : IVec S16x256x1024 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_arg8 main_v2 main_v5 main_v8 main_v11 main_v14 main_v17
-- ==== Kernel.lean ====
abbrev S16x2048x1024 : Shape := ⟨3, ![16, 2048, 1024]⟩
abbrev S16x256x1024 : Shape := ⟨3, ![16, 256, 1024]⟩
abbrev S1x64 : Shape := ⟨2, ![1, 64]⟩
abbrev S1x128 : Shape := ⟨2, ![1, 128]⟩
abbrev S64 : Shape := ⟨1, ![64]⟩
abbrev S128 : Shape := ⟨1, ![128]⟩
abbrev S128x1 : Shape := ⟨2, ![128, 1]⟩
abbrev S1x2048x256 : Shape := ⟨3, ![1, 2048, 256]⟩
abbrev S1x256x256 : Shape := ⟨3, ![1, 256, 256]⟩
abbrev S2x2304x128 : Shape := ⟨3, ![2, 2304, 128]⟩
abbrev S2x144x2304 : Shape := ⟨3, ![2, 144, 2304]⟩
abbrev S2304x1024 : Shape := ⟨2, ![2304, 1024]⟩
abbrev S1 : Shape := ⟨1, ![1]⟩
abbrev S1x1 : Shape := ⟨2, ![1, 1]⟩
abbrev S512x128 : Shape := ⟨2, ![512, 128]⟩
abbrev S16x2304 : Shape := ⟨2, ![16, 2304]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S128x2048 : Shape := ⟨2, ![128, 2048]⟩
abbrev S1x128x2048 : Shape := ⟨3, ![1, 128, 2048]⟩
abbrev S128x256 : Shape := ⟨2, ![128, 256]⟩
abbrev S1x128x256 : Shape := ⟨3, ![1, 128, 256]⟩
abbrev S1x16x2304 : Shape := ⟨3, ![1, 16, 2304]⟩
abbrev S1x512x128 : Shape := ⟨3, ![1, 512, 128]⟩
abbrev S1024x128 : Shape := ⟨2, ![1024, 128]⟩
abbrev S1x2304x128 : Shape := ⟨3, ![1, 2304, 128]⟩
abbrev S2304x128 : Shape := ⟨2, ![2304, 128]⟩
abbrev S1024 : Shape := ⟨1, ![1024]⟩
abbrev S1x1024 : Shape := ⟨2, ![1, 1024]⟩
abbrev S1x144x2304 : Shape := ⟨3, ![1, 144, 2304]⟩
abbrev S144x2304 : Shape := ⟨2, ![144, 2304]⟩
abbrev S144x1024 : Shape := ⟨2, ![144, 1024]⟩
abbrev S1x512 : Shape := ⟨2, ![1, 512]⟩
abbrev S128x512 : Shape := ⟨2, ![128, 512]⟩
abbrev S512 : Shape := ⟨1, ![512]⟩

abbrev nBuf : Space → Nat
  | .hbm => 25
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x256x1024, .f32⟩
  | .hbm, ⟨4, _⟩ => ⟨S16x256x1024, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S16x2048x1024, .bf16⟩
  | .hbm, ⟨11, _⟩ => ⟨S16x2048x1024, .bf16⟩
  | .hbm, ⟨12, _⟩ => ⟨S16x256x1024, .bf16⟩
  | .hbm, ⟨13, _⟩ => ⟨S16x256x1024, .bf16⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S128, .f32⟩
  | .hbm, ⟨23, _⟩ => ⟨S128x1, .f32⟩
  | .hbm, ⟨24, _⟩ => ⟨S16x2048x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S128x1, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S2x2304x128, .bf16⟩
  | .local _ .vmem, ⟨18, _⟩ => ⟨S2x144x2304, .bf16⟩
  | .local _ .vmem, ⟨19, _⟩ => ⟨S2304x1024, .f32⟩
  | .local _ .vmem, ⟨20, _⟩ => ⟨S2304x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S16x2048x1024 : Shape := ⟨3, ![16, 2048, 1024]⟩
abbrev S16x256x1024 : Shape := ⟨3, ![16, 256, 1024]⟩
abbrev S1x64 : Shape := ⟨2, ![1, 64]⟩
abbrev S1x128 : Shape := ⟨2, ![1, 128]⟩
abbrev S64 : Shape := ⟨1, ![64]⟩
abbrev S128 : Shape := ⟨1, ![128]⟩
abbrev S16x2048x8x2x64 : Shape := ⟨5, ![16, 2048, 8, 2, 64]⟩
abbrev S16x2048x8x128 : Shape := ⟨4, ![16, 2048, 8, 128]⟩
abbrev S16x256x8x2x64 : Shape := ⟨5, ![16, 256, 8, 2, 64]⟩
abbrev S16x256x8x128 : Shape := ⟨4, ![16, 256, 8, 128]⟩
abbrev S_ : Shape := ⟨0, ![]⟩
abbrev S16x2304x8x2x64 : Shape := ⟨5, ![16, 2304, 8, 2, 64]⟩
abbrev S16x2304x8x128 : Shape := ⟨4, ![16, 2304, 8, 128]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x256x1024, .f32⟩
  | .hbm, ⟨4, _⟩ => ⟨S16x256x1024, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S128, .f32⟩
  | .hbm, ⟨15, _⟩ => ⟨S16x2048x8x2x64, .f32⟩
  | .hbm, ⟨16, _⟩ => ⟨S16x2048x8x2x64, .f32⟩
  | .hbm, ⟨17, _⟩ => ⟨S16x2048x8x128, .f32⟩
  | .hbm, ⟨18, _⟩ => ⟨S16x256x8x2x64, .f32⟩
  | .hbm, ⟨19, _⟩ => ⟨S16x256x8x128, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x2304x8x2x64, .f32⟩
  | .hbm, ⟨32, _⟩ => ⟨S16x2304x8x128, .f32⟩
  | .hbm, ⟨33, _⟩ => ⟨S16x8x2x2048x2304, .f32⟩
  | .hbm, ⟨34, _⟩ => ⟨S_, .f32⟩
  | .hbm, ⟨35, _⟩ => ⟨S16x8x2x2048x2304, .f32⟩
  | .hbm, ⟨36, _⟩ => ⟨S16x8x2x2048x2304, .f32⟩
  | .hbm, ⟨37, _⟩ => ⟨S_, .f32⟩
  | .hbm, ⟨38, _⟩ => ⟨S16x8x2x2048, .f32⟩
  | .hbm, ⟨39, _⟩ => ⟨S_, .f32⟩
  | .hbm, ⟨40, _⟩ => ⟨S16x8x2x2048, .f32⟩
  | .hbm, ⟨41, _⟩ => ⟨S16x8x2x2048, .f32⟩
  | .hbm, ⟨42, _⟩ => ⟨S16x8x2x2048x1, .f32⟩
  | .hbm, ⟨43, _⟩ => ⟨S16x8x2x2048x2304, .f32⟩
  | .hbm, ⟨44, _⟩ => ⟨S16x8x2x2048x2304, .f32⟩
  | .hbm, ⟨45, _⟩ => ⟨S16x8x2x2048x2304, .f32⟩
  | .hbm, ⟨46, _⟩ => ⟨S_, .f32⟩
  | .hbm, ⟨47, _⟩ => ⟨S16x8x2x2048, .f32⟩
  | .hbm, ⟨48, _⟩ => ⟨S16x8x2x2048x1, .f32⟩
  | .hbm, ⟨49, _⟩ => ⟨S16x8x2x2048x2304, .f32⟩
  | .hbm, ⟨50, _⟩ => ⟨S16x8x2x2048x2304, .f32⟩
  | .hbm, ⟨51, _⟩ => ⟨S16x8x1x2048x2304, .f32⟩
  | .hbm, ⟨52, _⟩ => ⟨S16x8x2048x2304, .f32⟩
  | .hbm, ⟨53, _⟩ => ⟨S16x8x1x2048x2304, .f32⟩
  | .hbm, ⟨54, _⟩ => ⟨S16x8x2048x2304, .f32⟩
  | .hbm, ⟨55, _⟩ => ⟨S16x8x2048x2304, .f32⟩
  | .hbm, ⟨56, _⟩ => ⟨S16x8x2048x2304, .f32⟩
  | .hbm, ⟨57, _⟩ => ⟨S16x8x2048x2304, .f32⟩
  | .hbm, ⟨58, _⟩ => ⟨S16x8x128x2048, .f32⟩
  | .hbm, ⟨59, _⟩ => ⟨S16x2048x8x128, .f32⟩
  | .hbm, ⟨60, _⟩ => ⟨S16x2048x8x128, .f32⟩
  | .hbm, ⟨61, _⟩ => ⟨S_, .f32⟩
  | .hbm, ⟨62, _⟩ => ⟨S16x2048x8, .f32⟩
  | .hbm, ⟨63, _⟩ => ⟨S16x2048x8x1, .f32⟩
  | .hbm, ⟨64, _⟩ => ⟨S_, .f32⟩
  | .hbm, ⟨65, _⟩ => ⟨S16x2048x8x1, .f32⟩
  | .hbm, ⟨66, _⟩ => ⟨S16x2048x8x1, .f32⟩
  | .hbm, ⟨67, _⟩ => ⟨S_, .f32⟩
  | .hbm, ⟨68, _⟩ => ⟨S16x2048x8x1, .f32⟩
  | .hbm, ⟨69, _⟩ => ⟨S16x2048x8x1, .f32⟩
  | .hbm, ⟨70, _⟩ => ⟨S16x2048x8x1, .f32⟩
  | .hbm, ⟨71, _⟩ => ⟨S16x2048x8x128, .f32⟩
  | .hbm, ⟨72, _⟩ => ⟨S16x2048x8x128, .f32⟩
  | .hbm, ⟨73, _⟩ => ⟨S1x1x1x128, .f32⟩
  | .hbm, ⟨74, _⟩ => ⟨S16x2048x8x128, .f32⟩
  | .hbm, ⟨75, _⟩ => ⟨S16x2048x8x128, .f32⟩
  | .hbm, ⟨76, _⟩ => ⟨S_, .f32⟩
  | .hbm, ⟨77, _⟩ => ⟨S16x2048x8x128, .f32⟩
  | .hbm, ⟨78, _⟩ => ⟨S16x2048x8x128, .f32⟩
  | .hbm, ⟨79, _⟩ => ⟨S16x2048x1024, .f32⟩
  | .hbm, ⟨80, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6144 : Shape := ⟨2, ![16, 6144]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S4x1024 : Shape := ⟨2, ![4, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x1x6144 : Shape := ⟨3, ![16, 1, 6144]⟩
abbrev S1x512x1024 : Shape := ⟨3, ![1, 512, 1024]⟩
abbrev S1x1x6144 : Shape := ⟨3, ![1, 1, 6144]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 34
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x6144, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x1024, .f32⟩
  | .hbm, ⟨23, _⟩ => ⟨S1024x1024, .f32⟩
  | .hbm, ⟨24, _⟩ => ⟨S1024x1024, .bf16⟩
  | .hbm, ⟨25, _⟩ => ⟨S1x1024x4096, .f32⟩
  | .hbm, ⟨26, _⟩ => ⟨S1024x4096, .f32⟩
  | .hbm, ⟨27, _⟩ => ⟨S1024x4096, .bf16⟩
  | .hbm, ⟨28, _⟩ => ⟨S1x4096x1024, .f32⟩
  | .hbm, ⟨29, _⟩ => ⟨S4096x1024, .f32⟩
  | .hbm, ⟨30, _⟩ => ⟨S4096x1024, .bf16⟩
  | .hbm, ⟨31, _⟩ => ⟨S16x2048x1024, .bf16⟩
  | .hbm, ⟨32, _⟩ => ⟨S16x1x6144, .f32⟩
  | .hbm, ⟨33, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x6144, .f32⟩
  | .local _ .vmem, ⟨5, _⟩ => ⟨S1x1x6144, .f32⟩
  | .local _ .vmem, ⟨6, _⟩ => ⟨S1024x1024, .bf16⟩
  | .local _ .vmem, ⟨7, _⟩ => ⟨S1024x4096, .bf16⟩
  | .local _ .vmem, ⟨8, _⟩ => ⟨S4096x1024, .bf16⟩
  | .local _ .vmem, ⟨9, _⟩ => ⟨S4x1024, .f32⟩
  | .local _ .vmem, ⟨10, _⟩ => ⟨S1x512x1024, .f32⟩
  | .local _ .vmem, ⟨11, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x2048x1024 : Shape := ⟨3, ![16, 2048, 1024]⟩
abbrev S16x6144 : Shape := ⟨2, ![16, 6144]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16x1x6144 : Shape := ⟨3, ![16, 1, 6144]⟩
abbrev S16x1x1024 : Shape := ⟨3, ![16, 1, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x2048x4096 : Shape := ⟨3, ![16, 2048, 4096]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x6144, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S16x1x6144, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S1024x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x1x1024, .f32⟩
  | .hbm, ⟨60, _⟩ => ⟨S16x1x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S1x1024x4096, .f32⟩
  | .hbm, ⟨66, _⟩ => ⟨S1024x4096, .f32⟩
  | .hbm, ⟨67, _⟩ => ⟨S1x4096x1024, .f32⟩
  | .hbm, ⟨68, _⟩ => ⟨S4096x1024, .f32⟩
  | .hbm, ⟨69, _⟩ => ⟨S16x2048x4096, .f32⟩
  | .hbm, ⟨70, _⟩ => ⟨S_, .f32⟩
  | .hbm, ⟨71, _⟩ => ⟨S16x2048x4096, .f32⟩
  | .hbm, ⟨72, _⟩ => ⟨S16x2048x4096, .f32⟩
  | .hbm, ⟨73, _⟩ => ⟨S16x2048x4096, .f32⟩
  | .hbm, ⟨74, _⟩ => ⟨S16x2048x1024, .f32⟩
  | .hbm, ⟨75, _⟩ => ⟨S_, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S1x1024, .f32⟩
  | .hbm, ⟨82, _⟩ => ⟨S1024, .f32⟩
  | .hbm, ⟨83, _⟩ => ⟨S1x1024, .f32⟩
  | .hbm, ⟨84, _⟩ => ⟨S1024, .f32⟩
  | .hbm, ⟨85, _⟩ => ⟨S_, .f32⟩
  | .hbm, ⟨86, _⟩ => ⟨S16x2048, .f32⟩
  | .hbm, ⟨87, _⟩ => ⟨S16x2048x1, .f32⟩
  | .hbm, ⟨88, _⟩ => ⟨S_, .f32⟩
  | .hbm, ⟨89, _⟩ => ⟨S16x2048x1, .f32⟩
  | .hbm, ⟨90, _⟩ => ⟨S16x2048x1, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S_, .f32⟩
  | .hbm, ⟨95, _⟩ => ⟨S16x2048, .f32⟩
  | .hbm, ⟨96, _⟩ => ⟨S16x2048x1, .f32⟩
  | .hbm, ⟨97, _⟩ => ⟨S_, .f32⟩
  | .hbm, ⟨98, _⟩ => ⟨S16x2048x1, .f32⟩
  | .hbm, ⟨99, _⟩ => ⟨S16x2048x1, .f32⟩
  | .hbm, ⟨100, _⟩ => ⟨S16x2048x1024, .f32⟩
  | .hbm, ⟨101, _⟩ => ⟨S16x2048x1024, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1, .f32⟩
  | .hbm, ⟨106, _⟩ => ⟨S16x2048x1024, .f32⟩
  | .hbm, ⟨107, _⟩ => ⟨S16x2048x1024, .f32⟩
  | .hbm, ⟨108, _⟩ => ⟨S1x1x1024, .f32⟩
  | .hbm, ⟨109, _⟩ => ⟨S16x2048x1024, .f32⟩
  | .hbm, ⟨110, _⟩ => ⟨S16x2048x1024, .f32⟩
  | .hbm, ⟨111, _⟩ => ⟨S1x1x1024, .f32⟩
  | .hbm, ⟨112, _⟩ => ⟨S16x2048x1024, .f32⟩
  | .hbm, ⟨113, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_cst : Ref sig .tc := ⟨.hbm, 70, rfl⟩
abbrev main_call0_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6144 : Shape := ⟨2, ![16, 6144]⟩
abbrev S1x1024x1024 : Shape := ⟨3, ![1, 1024, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024x1024 : Shape := ⟨2, ![1024, 1024]⟩
abbrev S16x1x6144 : Shape := ⟨3, ![16, 1, 6144]⟩
abbrev S1x1x6144 : Shape := ⟨3, ![1, 1, 6144]⟩
abbrev S1024x128 : Shape := ⟨2, ![1024, 128]⟩
abbrev S1x1x1024 : Shape := ⟨3, ![1, 1, 1024]⟩
abbrev S1x1024 : Shape := ⟨2, ![1, 1024]⟩
abbrev S1x1024x128 : Shape := ⟨3, ![1, 1024, 128]⟩

abbrev nBuf : Space → Nat
  | .hbm => 52
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S2048x32, .f32⟩
  | .hbm, ⟨38, _⟩ => ⟨S2048x64, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S1024x1024, .f32⟩
  | .hbm, ⟨43, _⟩ => ⟨S1024x1024, .bf16⟩
  | .hbm, ⟨44, _⟩ => ⟨S1024x1024, .f32⟩
  | .hbm, ⟨45, _⟩ => ⟨S1024x1024, .bf16⟩
  | .hbm, ⟨46, _⟩ => ⟨S1024x1024, .f32⟩
  | .hbm, ⟨47, _⟩ => ⟨S1024x1024, .bf16⟩
  | .hbm, ⟨48, _⟩ => ⟨S16x1x6144, .f32⟩
  | .hbm, ⟨49, _⟩ => ⟨S16x2048x1024, .bf16⟩
  | .hbm, ⟨50, _⟩ => ⟨S16x2048x1024, .bf16⟩
  | .hbm, ⟨51, _⟩ => ⟨S16x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42_0 : Ref sig .tc := ⟨.hbm, 49, rfl⟩
abbrev main_v42_1 : Ref sig .tc := ⟨.hbm, 50, rfl⟩
abbrev main_v42_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16x2048x1024 : Shape := ⟨3, ![16, 2048, 1024]⟩
abbrev S16x6144 : Shape := ⟨2, ![16, 6144]⟩
abbrev S1x1024x1024 : Shape := ⟨3, ![1, 1024, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16x1x6144 : Shape := ⟨3, ![16, 1, 6144]⟩
abbrev S16x1x1024 : Shape := ⟨3, ![16, 1, 1024]⟩
abbrev S1024x1024 : Shape := ⟨2, ![1024, 1024]⟩
abbrev S16x2048x8x2x64 : Shape := ⟨5, ![16, 2048, 8, 2, 64]⟩
abbrev S1x2048x1x1x32 : Shape := ⟨5, ![1, 2048, 1, 1, 32]⟩
abbrev S16x2048x8x2x32 : Shape := ⟨5, ![16, 2048, 8, 2, 32]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S16x1x6144, .f32⟩
  | .hbm, ⟨34, _⟩ => ⟨S16x1x1024, .f32⟩
  | .hbm, ⟨35, _⟩ => ⟨S16x1x1024, .f32⟩
  | .hbm, ⟨36, _⟩ => ⟨S16x1x1024, .f32⟩
  | .hbm, ⟨37, _⟩ => ⟨S16x1x1024, .f32⟩
  | .hbm, ⟨38, _⟩ => ⟨S16x1x1024, .f32⟩
  | .hbm, ⟨39, _⟩ => ⟨S16x1x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1024x1024, .f32⟩
  | .hbm, ⟨48, _⟩ => ⟨S16x2048x1024, .f32⟩
  | .hbm, ⟨49, _⟩ => ⟨S16x2048x8x2x64, .f32⟩
  | .hbm, ⟨50, _⟩ => ⟨S1x2048x1x1x32, .f32⟩
  | .hbm, ⟨51, _⟩ => ⟨S1x2048x1x1x32, .f32⟩
  | .hbm, ⟨52, _⟩ => ⟨S16x2048x8x2x32, .f32⟩
  | .hbm, ⟨53, _⟩ => ⟨S16x2048x8x2x32, .f32⟩
  | .hbm, ⟨54, _⟩ => ⟨S16x2048x8x2x32, .f32⟩
  | .hbm, ⟨55, _⟩ => ⟨S16x2048x8x2x32, .f32⟩
  | .hbm, ⟨56, _⟩ => ⟨S16x2048x8x2x32, .f32⟩
  | .hbm, ⟨57, _⟩ => ⟨S16x2048x8x2x32, .f32⟩
  | .hbm, ⟨58, _⟩ => ⟨S16x2048x8x2x32, .f32⟩
  | .hbm, ⟨59, _⟩ => ⟨S16x2048x8x2x32, .f32⟩
  | .hbm, ⟨60, _⟩ => ⟨S16x2048x8x2x32, .f32⟩
  | .hbm, ⟨61, _⟩ => ⟨S16x2048x8x2x32, .f32⟩
  | .hbm, ⟨62, _⟩ => ⟨S16x2048x8x2x32, .f32⟩
  | .hbm, ⟨63, _⟩ => ⟨S16x2048x8x2x32, .f32⟩
  | .hbm, ⟨64, _⟩ => ⟨S16x2048x8x2x64, .f32⟩
  | .hbm, ⟨65, _⟩ => ⟨S1024x1024, .f32⟩
  | .hbm, ⟨66, _⟩ => ⟨S16x2048x1024, .f32⟩
  | .hbm, ⟨67, _⟩ => ⟨S16x2048x8x2x64, .f32⟩
  | .hbm, ⟨68, _⟩ => ⟨S1x2048x1x1x32, .f32⟩
  | .hbm, ⟨69, _⟩ => ⟨S1x2048x1x1x32, .f32⟩
  | .hbm, ⟨70, _⟩ => ⟨S16x2048x8x2x32, .f32⟩
  | .hbm, ⟨71, _⟩ => ⟨S16x2048x8x2x32, .f32⟩
  | .hbm, ⟨72, _⟩ => ⟨S16x2048x8x2x32, .f32⟩
  | .hbm, ⟨73, _⟩ => ⟨S16x2048x8x2x32, .f32⟩
  | .hbm, ⟨74, _⟩ => ⟨S16x2048x8x2x32, .f32⟩
  | .hbm, ⟨75, _⟩ => ⟨S16x2048x8x2x32, .f32⟩
  | .hbm, ⟨76, _⟩ => ⟨S16x2048x8x2x32, .f32⟩
  | .hbm, ⟨77, _⟩ => ⟨S16x2048x8x2x32, .f32⟩
  | .hbm, ⟨78, _⟩ => ⟨S16x2048x8x2x32, .f32⟩
  | .hbm, ⟨79, _⟩ => ⟨S16x2048x8x2x32, .f32⟩
  | .hbm, ⟨80, _⟩ => ⟨S16x2048x8x2x32, .f32⟩
  | .hbm, ⟨81, _⟩ => ⟨S16x2048x8x2x32, .f32⟩
  | .hbm, ⟨82, _⟩ => ⟨S16x2048x8x2x64, .f32⟩
  | .hbm, ⟨83, _⟩ => ⟨S1024x1024, .f32⟩
  | .hbm, ⟨84, _⟩ => ⟨S16x2048x1024, .f32⟩
  | .hbm, ⟨85, _⟩ => ⟨S16x2048x1024, .f32⟩
  | .hbm, ⟨86, _⟩ => ⟨S16x2048x1024, .bf16⟩
  | .hbm, ⟨87, _⟩ => ⟨S16x2048x1024, .f32⟩
  | .hbm, ⟨88, _⟩ => ⟨S16x2048x1024, .bf16⟩
  | .hbm, ⟨89, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x6144 : Shape := ⟨2, ![16, 6144]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S4x1024 : Shape := ⟨2, ![4, 1024]⟩
abbrev S1024x1024 : Shape := ⟨2, ![1024, 1024]⟩
abbrev S2x8x64x1024 : Shape := ⟨4, ![2, 8, 64, 1024]⟩
abbrev S8x2x64x1024 : Shape := ⟨4, ![8, 2, 64, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x1x6144 : Shape := ⟨3, ![16, 1, 6144]⟩
abbrev S1x512x1024 : Shape := ⟨3, ![1, 512, 1024]⟩
abbrev S1x1x6144 : Shape := ⟨3, ![1, 1, 6144]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 37
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x6144, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x1024, .f32⟩
  | .hbm, ⟨23, _⟩ => ⟨S1024x1024, .f32⟩
  | .hbm, ⟨24, _⟩ => ⟨S2x8x64x1024, .f32⟩
  | .hbm, ⟨25, _⟩ => ⟨S8x2x64x1024, .f32⟩
  | .hbm, ⟨26, _⟩ => ⟨S1024x1024, .f32⟩
  | .hbm, ⟨27, _⟩ => ⟨S1024x1024, .bf16⟩
  | .hbm, ⟨28, _⟩ => ⟨S1x1024x4096, .f32⟩
  | .hbm, ⟨29, _⟩ => ⟨S1024x4096, .f32⟩
  | .hbm, ⟨30, _⟩ => ⟨S1024x4096, .bf16⟩
  | .hbm, ⟨31, _⟩ => ⟨S1x4096x1024, .f32⟩
  | .hbm, ⟨32, _⟩ => ⟨S4096x1024, .f32⟩
  | .hbm, ⟨33, _⟩ => ⟨S4096x1024, .bf16⟩
  | .hbm, ⟨34, _⟩ => ⟨S16x2048x1024, .bf16⟩
  | .hbm, ⟨35, _⟩ => ⟨S16x1x6144, .f32⟩
  | .hbm, ⟨36, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x6144, .f32⟩
  | .local _ .vmem, ⟨5, _⟩ => ⟨S1x1x6144, .f32⟩
  | .local _ .vmem, ⟨6, _⟩ => ⟨S1024x1024, .bf16⟩
  | .local _ .vmem, ⟨7, _⟩ => ⟨S1024x4096, .bf16⟩
  | .local _ .vmem, ⟨8, _⟩ => ⟨S4096x1024, .bf16⟩
  | .local _ .vmem, ⟨9, _⟩ => ⟨S4x1024, .f32⟩
  | .local _ .vmem, ⟨10, _⟩ => ⟨S1x512x1024, .f32⟩
  | .local _ .vmem, ⟨11, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x2048x1024 : Shape := ⟨3, ![16, 2048, 1024]⟩
abbrev S16x6144 : Shape := ⟨2, ![16, 6144]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S16x1x6144 : Shape := ⟨3, ![16, 1, 6144]⟩
abbrev S16x1x1024 : Shape := ⟨3, ![16, 1, 1024]⟩
abbrev S16x2048x8x2x64 : Shape := ⟨5, ![16, 2048, 8, 2, 64]⟩
abbrev S16x2048x2x8x64 : Shape := ⟨5, ![16, 2048, 2, 8, 64]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x2048x4096 : Shape := ⟨3, ![16, 2048, 4096]⟩

abbrev nBuf : Space → Nat
  | .hbm => 117
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x6144, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S16x1x6144, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x2048x8x2x64, .f32⟩
  | .hbm, ⟨18, _⟩ => ⟨S16x2048x2x8x64, .f32⟩
  | .hbm, ⟨19, _⟩ => ⟨S16x2048x1024, .f32⟩
  | .hbm, ⟨20, _⟩ => ⟨S1024x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x1x1024, .f32⟩
  | .hbm, ⟨63, _⟩ => ⟨S16x1x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S1x1024x4096, .f32⟩
  | .hbm, ⟨69, _⟩ => ⟨S1024x4096, .f32⟩
  | .hbm, ⟨70, _⟩ => ⟨S1x4096x1024, .f32⟩
  | .hbm, ⟨71, _⟩ => ⟨S4096x1024, .f32⟩
  | .hbm, ⟨72, _⟩ => ⟨S16x2048x4096, .f32⟩
  | .hbm, ⟨73, _⟩ => ⟨S_, .f32⟩
  | .hbm, ⟨74, _⟩ => ⟨S16x2048x4096, .f32⟩
  | .hbm, ⟨75, _⟩ => ⟨S16x2048x4096, .f32⟩
  | .hbm, ⟨76, _⟩ => ⟨S16x2048x4096, .f32⟩
  | .hbm, ⟨77, _⟩ => ⟨S16x2048x1024, .f32⟩
  | .hbm, ⟨78, _⟩ => ⟨S_, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S1x1024, .f32⟩
  | .hbm, ⟨85, _⟩ => ⟨S1024, .f32⟩
  | .hbm, ⟨86, _⟩ => ⟨S1x1024, .f32⟩
  | .hbm, ⟨87, _⟩ => ⟨S1024, .f32⟩
  | .hbm, ⟨88, _⟩ => ⟨S_, .f32⟩
  | .hbm, ⟨89, _⟩ => ⟨S16x2048, .f32⟩
  | .hbm, ⟨90, _⟩ => ⟨S16x2048x1, .f32⟩
  | .hbm, ⟨91, _⟩ => ⟨S_, .f32⟩
  | .hbm, ⟨92, _⟩ => ⟨S16x2048x1, .f32⟩
  | .hbm, ⟨93, _⟩ => ⟨S16x2048x1, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S_, .f32⟩
  | .hbm, ⟨98, _⟩ => ⟨S16x2048, .f32⟩
  | .hbm, ⟨99, _⟩ => ⟨S16x2048x1, .f32⟩
  | .hbm, ⟨100, _⟩ => ⟨S_, .f32⟩
  | .hbm, ⟨101, _⟩ => ⟨S16x2048x1, .f32⟩
  | .hbm, ⟨102, _⟩ => ⟨S16x2048x1, .f32⟩
  | .hbm, ⟨103, _⟩ => ⟨S16x2048x1024, .f32⟩
  | .hbm, ⟨104, _⟩ => ⟨S16x2048x1024, .f32⟩
  | .hbm, ⟨105, _⟩ => ⟨S_, .f32⟩
  | .hbm, ⟨106, _⟩ => ⟨S16x2048x1, .f32⟩
  | .hbm, ⟨107, _⟩ => ⟨S16x2048x1, .f32⟩
  | .hbm, ⟨108, _⟩ => ⟨S16x2048x1, .f32⟩
  | .hbm, ⟨109, _⟩ => ⟨S16x2048x1024, .f32⟩
  | .hbm, ⟨110, _⟩ => ⟨S16x2048x1024, .f32⟩
  | .hbm, ⟨111, _⟩ => ⟨S1x1x1024, .f32⟩
  | .hbm, ⟨112, _⟩ => ⟨S16x2048x1024, .f32⟩
  | .hbm, ⟨113, _⟩ => ⟨S16x2048x1024, .f32⟩
  | .hbm, ⟨114, _⟩ => ⟨S1x1x1024, .f32⟩
  | .hbm, ⟨115, _⟩ => ⟨S16x2048x1024, .f32⟩
  | .hbm, ⟨116, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call0_cst : Ref sig .tc := ⟨.hbm, 73, rfl⟩
abbrev main_call0_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_cst_10 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Kernel5.lean ====
abbrev S16x256x1024 : Shape := ⟨3, ![16, 256, 1024]⟩
abbrev S6144 : Shape := ⟨1, ![6144]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S4x1024 : Shape := ⟨2, ![4, 1024]⟩
abbrev S1024x1024 : Shape := ⟨2, ![1024, 1024]⟩
abbrev S2x8x64x1024 : Shape := ⟨4, ![2, 8, 64, 1024]⟩
abbrev S8x2x64x1024 : Shape := ⟨4, ![8, 2, 64, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x6144 : Shape := ⟨3, ![1, 1, 6144]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 39
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S6144, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x1024, .f32⟩
  | .hbm, ⟨23, _⟩ => ⟨S1024x1024, .f32⟩
  | .hbm, ⟨24, _⟩ => ⟨S2x8x64x1024, .f32⟩
  | .hbm, ⟨25, _⟩ => ⟨S8x2x64x1024, .f32⟩
  | .hbm, ⟨26, _⟩ => ⟨S1024x1024, .f32⟩
  | .hbm, ⟨27, _⟩ => ⟨S1024x1024, .bf16⟩
  | .hbm, ⟨28, _⟩ => ⟨S1x1024x4096, .f32⟩
  | .hbm, ⟨29, _⟩ => ⟨S1024x4096, .f32⟩
  | .hbm, ⟨30, _⟩ => ⟨S1024x4096, .bf16⟩
  | .hbm, ⟨31, _⟩ => ⟨S1x4096x1024, .f32⟩
  | .hbm, ⟨32, _⟩ => ⟨S4096x1024, .f32⟩
  | .hbm, ⟨33, _⟩ => ⟨S4096x1024, .bf16⟩
  | .hbm, ⟨34, _⟩ => ⟨S16x256x1024, .bf16⟩
  | .hbm, ⟨35, _⟩ => ⟨S1x4096x1024, .bf16⟩
  | .hbm, ⟨36, _⟩ => ⟨S1x4096x1024, .f32⟩
  | .hbm, ⟨37, _⟩ => ⟨S1x1x6144, .f32⟩
  | .hbm, ⟨38, _⟩ => ⟨S1x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x6144, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S4x1024, .f32⟩
  | .local _ .vmem, ⟨9, _⟩ => ⟨S1x512x1024, .f32⟩
  | .local _ .vmem, ⟨10, _⟩ => ⟨S1x512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S16x256x1024 : Shape := ⟨3, ![16, 256, 1024]⟩
abbrev S6144 : Shape := ⟨1, ![6144]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S16x256x8x2x64 : Shape := ⟨5, ![16, 256, 8, 2, 64]⟩
abbrev S16x256x2x8x64 : Shape := ⟨5, ![16, 256, 2, 8, 64]⟩
abbrev S1024x1024 : Shape := ⟨2, ![1024, 1024]⟩
abbrev S_ : Shape := ⟨0, ![]⟩
abbrev S1x1x1024 : Shape := ⟨3, ![1, 1, 1024]⟩
abbrev S1x1024 : Shape := ⟨2, ![1, 1024]⟩
abbrev S16x256 : Shape := ⟨2, ![16, 256]⟩
abbrev S16x256x1 : Shape := ⟨3, ![16, 256, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x256x4096 : Shape := ⟨3, ![16, 256, 4096]⟩

abbrev nBuf : Space → Nat
  | .hbm => 121
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S6144, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024x4096, .f32⟩
  | .hbm, ⟨9, _⟩ => ⟨S2x4096x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S16x256x8x2x64, .f32⟩
  | .hbm, ⟨17, _⟩ => ⟨S16x256x2x8x64, .f32⟩
  | .hbm, ⟨18, _⟩ => ⟨S16x256x1024, .f32⟩
  | .hbm, ⟨19, _⟩ => ⟨S1024x1024, .f32⟩
  | .hbm, ⟨20, _⟩ => ⟨S16x256x1024, .f32⟩
  | .hbm, ⟨21, _⟩ => ⟨S_, .f32⟩
  | .hbm, ⟨22, _⟩ => ⟨S16x256x1024, .f32⟩
  | .hbm, ⟨23, _⟩ => ⟨S16x256x1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S16x256x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S_, .f32⟩
  | .hbm, ⟨42, _⟩ => ⟨S16x256, .f32⟩
  | .hbm, ⟨43, _⟩ => ⟨S16x256x1, .f32⟩
  | .hbm, ⟨44, _⟩ => ⟨S_, .f32⟩
  | .hbm, ⟨45, _⟩ => ⟨S16x256x1, .f32⟩
  | .hbm, ⟨46, _⟩ => ⟨S16x256x1, .f32⟩
  | .hbm, ⟨47, _⟩ => ⟨S16x256x1024, .f32⟩
  | .hbm, ⟨48, _⟩ => ⟨S16x256x1024, .f32⟩
  | .hbm, ⟨49, _⟩ => ⟨S_, .f32⟩
  | .hbm, ⟨50, _⟩ => ⟨S16x256x1, .f32⟩
  | .hbm, ⟨51, _⟩ => ⟨S16x256x1, .f32⟩
  | .hbm, ⟨52, _⟩ => ⟨S16x256x1, .f32⟩
  | .hbm, ⟨53, _⟩ => ⟨S16x256x1024, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S1x1x1024, .f32⟩
  | .hbm, ⟨59, _⟩ => ⟨S16x256x1024, .f32⟩
  | .hbm, ⟨60, _⟩ => ⟨S16x256x1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1x1x1024, .f32⟩
  | .hbm, ⟨65, _⟩ => ⟨S16x256x1024, .f32⟩
  | .hbm, ⟨66, _⟩ => ⟨S16x256x1024, .f32⟩
  | .hbm, ⟨67, _⟩ => ⟨S1x1x1024, .f32⟩
  | .hbm, ⟨68, _⟩ => ⟨S16x256x1024, .f32⟩
  | .hbm, ⟨69, _⟩ => ⟨S16x256x1024, .f32⟩
  | .hbm, ⟨70, _⟩ => ⟨S1x1024x4096, .f32⟩
  | .hbm, ⟨71, _⟩ => ⟨S1024x4096, .f32⟩
  | .hbm, ⟨72, _⟩ => ⟨S1x4096x1024, .f32⟩
  | .hbm, ⟨73, _⟩ => ⟨S4096x1024, .f32⟩
  | .hbm, ⟨74, _⟩ => ⟨S16x256x4096, .f32⟩
  | .hbm, ⟨75, _⟩ => ⟨S_, .f32⟩
  | .hbm, ⟨76, _⟩ => ⟨S16x256x4096, .f32⟩
  | .hbm, ⟨77, _⟩ => ⟨S16x256x4096, .f32⟩
  | .hbm, ⟨78, _⟩ => ⟨S16x256x4096, .f32⟩
  | .hbm, ⟨79, _⟩ => ⟨S16x256x1024, .f32⟩
  | .hbm, ⟨80, _⟩ => ⟨S_, .f32⟩
  | .hbm, ⟨81, _⟩ => ⟨S16x256x1024, .f32⟩
  | .hbm, ⟨82, _⟩ => ⟨S16x256x1024, .f32⟩
  | .hbm, ⟨83, _⟩ => ⟨S1x1x1024, .f32⟩
  | .hbm, ⟨84, _⟩ => ⟨S16x256x1024, .f32⟩
  | .hbm, ⟨85, _⟩ => ⟨S16x256x1024, .f32⟩
  | .hbm, ⟨86, _⟩ => ⟨S16x256x1024, .f32⟩
  | .hbm, ⟨87, _⟩ => ⟨S1x1024, .f32⟩
  | .hbm, ⟨88, _⟩ => ⟨S1024, .f32⟩
  | .hbm, ⟨89, _⟩ => ⟨S1x1024, .f32⟩
  | .hbm, ⟨90, _⟩ => ⟨S1024, .f32⟩
  | .hbm, ⟨91, _⟩ => ⟨S_, .f32⟩
  | .hbm, ⟨92, _⟩ => ⟨S16x256, .f32⟩
  | .hbm, ⟨93, _⟩ => ⟨S16x256x1, .f32⟩
  | .hbm, ⟨94, _⟩ => ⟨S_, .f32⟩
  | .hbm, ⟨95, _⟩ => ⟨S16x256x1, .f32⟩
  | .hbm, ⟨96, _⟩ => ⟨S16x256x1, .f32⟩
  | .hbm, ⟨97, _⟩ => ⟨S16x256x1024, .f32⟩
  | .hbm, ⟨98, _⟩ => ⟨S16x256x1024, .f32⟩
  | .hbm, ⟨99, _⟩ => ⟨S16x256x1024, .f32⟩
  | .hbm, ⟨100, _⟩ => ⟨S_, .f32⟩
  | .hbm, ⟨101, _⟩ => ⟨S16x256, .f32⟩
  | .hbm, ⟨102, _⟩ => ⟨S16x256x1, .f32⟩
  | .hbm, ⟨103, _⟩ => ⟨S_, .f32⟩
  | .hbm, ⟨104, _⟩ => ⟨S16x256x1, .f32⟩
  | .hbm, ⟨105, _⟩ => ⟨S16x256x1, .f32⟩
  | .hbm, ⟨106, _⟩ => ⟨S16x256x1024, .f32⟩
  | .hbm, ⟨107, _⟩ => ⟨S16x256x1024, .f32⟩
  | .hbm, ⟨108, _⟩ => ⟨S_, .f32⟩
  | .hbm, ⟨109, _⟩ => ⟨S16x256x1, .f32⟩
  | .hbm, ⟨110, _⟩ => ⟨S16x256x1, .f32⟩
  | .hbm, ⟨111, _⟩ => ⟨S16x256x1, .f32⟩
  | .hbm, ⟨112, _⟩ => ⟨S16x256x1024, .f32⟩
  | .hbm, ⟨113, _⟩ => ⟨S16x256x1024, .f32⟩
  | .hbm, ⟨114, _⟩ => ⟨S1x1x1024, .f32⟩
  | .hbm, ⟨115, _⟩ => ⟨S16x256x1024, .f32⟩
  | .hbm, ⟨116, _⟩ => ⟨S16x256x1024, .f32⟩
  | .hbm, ⟨117, _⟩ => ⟨S1x1x1024, .f32⟩
  | .hbm, ⟨118, _⟩ => ⟨S16x256x1024, .f32⟩
  | .hbm, ⟨119, _⟩ => ⟨S16x256x1024, .f32⟩
  | .hbm, ⟨120, _⟩ => ⟨S1x4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_cst : Ref sig .tc := ⟨.hbm, 75, rfl⟩
abbrev main_call0_v0 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_11 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Kernel6.lean ====
abbrev S16x2048x1024 : Shape := ⟨3, ![16, 2048, 1024]⟩
abbrev S16x6144 : Shape := ⟨2, ![16, 6144]⟩
abbrev S1x1024x1024 : Shape := ⟨3, ![1, 1024, 1024]⟩
abbrev S1x1024x128 : Shape := ⟨3, ![1, 1024, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024x1024 : Shape := ⟨2, ![1024, 1024]⟩
abbrev S1024x2x8x64 : Shape := ⟨4, ![1024, 2, 8, 64]⟩
abbrev S1024x8x2x64 : Shape := ⟨4, ![1024, 8, 2, 64]⟩
abbrev S1024x128 : Shape := ⟨2, ![1024, 128]⟩
abbrev S16x1x6144 : Shape := ⟨3, ![16, 1, 6144]⟩
abbrev S16x2048x128 : Shape := ⟨3, ![16, 2048, 128]⟩
abbrev S1x1x6144 : Shape := ⟨3, ![1, 1, 6144]⟩
abbrev S1x1x1024 : Shape := ⟨3, ![1, 1, 1024]⟩
abbrev S1x1024 : Shape := ⟨2, ![1, 1024]⟩

abbrev nBuf : Space → Nat
  | .hbm => 55
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024x1024, .f32⟩
  | .hbm, ⟨3, _⟩ => ⟨S1x1024x128, .f32⟩
  | .hbm, ⟨4, _⟩ => ⟨S1x1024x128, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S2048x32, .f32⟩
  | .hbm, ⟨38, _⟩ => ⟨S2048x64, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S1024x1024, .f32⟩
  | .hbm, ⟨43, _⟩ => ⟨S1024x2x8x64, .f32⟩
  | .hbm, ⟨44, _⟩ => ⟨S1024x8x2x64, .f32⟩
  | .hbm, ⟨45, _⟩ => ⟨S1024x1024, .f32⟩
  | .hbm, ⟨46, _⟩ => ⟨S1024x1024, .bf16⟩
  | .hbm, ⟨47, _⟩ => ⟨S1024x128, .f32⟩
  | .hbm, ⟨48, _⟩ => ⟨S1024x128, .bf16⟩
  | .hbm, ⟨49, _⟩ => ⟨S1024x128, .f32⟩
  | .hbm, ⟨50, _⟩ => ⟨S1024x128, .bf16⟩
  | .hbm, ⟨51, _⟩ => ⟨S16x1x6144, .f32⟩
  | .hbm, ⟨52, _⟩ => ⟨S16x2048x1024, .bf16⟩
  | .hbm, ⟨53, _⟩ => ⟨S16x2048x128, .bf16⟩
  | .hbm, ⟨54, _⟩ => ⟨S16x2048x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x1024, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45_0 : Ref sig .tc := ⟨.hbm, 52, rfl⟩
abbrev main_v45_1 : Ref sig .tc := ⟨.hbm, 53, rfl⟩
abbrev main_v45_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16x2048x1024 : Shape := ⟨3, ![16, 2048, 1024]⟩
abbrev S16x6144 : Shape := ⟨2, ![16, 6144]⟩
abbrev S1x1024x1024 : Shape := ⟨3, ![1, 1024, 1024]⟩
abbrev S1x1024x128 : Shape := ⟨3, ![1, 1024, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16x1x6144 : Shape := ⟨3, ![16, 1, 6144]⟩
abbrev S16x1x1024 : Shape := ⟨3, ![16, 1, 1024]⟩
abbrev S1024x1024 : Shape := ⟨2, ![1024, 1024]⟩
abbrev S16x2048x2x8x64 : Shape := ⟨5, ![16, 2048, 2, 8, 64]⟩
abbrev S1x2048x1x1x32 : Shape := ⟨5, ![1, 2048, 1, 1, 32]⟩
abbrev S16x2048x2x8x32 : Shape := ⟨5, ![16, 2048, 2, 8, 32]⟩
abbrev S1024x128 : Shape := ⟨2, ![1024, 128]⟩
abbrev S16x2048x128 : Shape := ⟨3, ![16, 2048, 128]⟩
abbrev S16x2048x2x64 : Shape := ⟨4, ![16, 2048, 2, 64]⟩
abbrev S1x2048x1x32 : Shape := ⟨4, ![1, 2048, 1, 32]⟩
abbrev S16x2048x2x32 : Shape := ⟨4, ![16, 2048, 2, 32]⟩
abbrev S16x2048x8x2x64 : Shape := ⟨5, ![16, 2048, 8, 2, 64]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024x1024, .f32⟩
  | .hbm, ⟨3, _⟩ => ⟨S1x1024x128, .f32⟩
  | .hbm, ⟨4, _⟩ => ⟨S1x1024x128, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S16x1x6144, .f32⟩
  | .hbm, ⟨34, _⟩ => ⟨S16x1x1024, .f32⟩
  | .hbm, ⟨35, _⟩ => ⟨S16x1x1024, .f32⟩
  | .hbm, ⟨36, _⟩ => ⟨S16x1x1024, .f32⟩
  | .hbm, ⟨37, _⟩ => ⟨S16x1x1024, .f32⟩
  | .hbm, ⟨38, _⟩ => ⟨S16x1x1024, .f32⟩
  | .hbm, ⟨39, _⟩ => ⟨S16x1x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1024x1024, .f32⟩
  | .hbm, ⟨48, _⟩ => ⟨S16x2048x1024, .f32⟩
  | .hbm, ⟨49, _⟩ => ⟨S16x2048x2x8x64, .f32⟩
  | .hbm, ⟨50, _⟩ => ⟨S1x2048x1x1x32, .f32⟩
  | .hbm, ⟨51, _⟩ => ⟨S1x2048x1x1x32, .f32⟩
  | .hbm, ⟨52, _⟩ => ⟨S16x2048x2x8x32, .f32⟩
  | .hbm, ⟨53, _⟩ => ⟨S16x2048x2x8x32, .f32⟩
  | .hbm, ⟨54, _⟩ => ⟨S16x2048x2x8x32, .f32⟩
  | .hbm, ⟨55, _⟩ => ⟨S16x2048x2x8x32, .f32⟩
  | .hbm, ⟨56, _⟩ => ⟨S16x2048x2x8x32, .f32⟩
  | .hbm, ⟨57, _⟩ => ⟨S16x2048x2x8x32, .f32⟩
  | .hbm, ⟨58, _⟩ => ⟨S16x2048x2x8x32, .f32⟩
  | .hbm, ⟨59, _⟩ => ⟨S16x2048x2x8x32, .f32⟩
  | .hbm, ⟨60, _⟩ => ⟨S16x2048x2x8x32, .f32⟩
  | .hbm, ⟨61, _⟩ => ⟨S16x2048x2x8x32, .f32⟩
  | .hbm, ⟨62, _⟩ => ⟨S16x2048x2x8x32, .f32⟩
  | .hbm, ⟨63, _⟩ => ⟨S16x2048x2x8x32, .f32⟩
  | .hbm, ⟨64, _⟩ => ⟨S16x2048x2x8x64, .f32⟩
  | .hbm, ⟨65, _⟩ => ⟨S1024x128, .f32⟩
  | .hbm, ⟨66, _⟩ => ⟨S16x2048x128, .f32⟩
  | .hbm, ⟨67, _⟩ => ⟨S16x2048x2x64, .f32⟩
  | .hbm, ⟨68, _⟩ => ⟨S1x2048x1x32, .f32⟩
  | .hbm, ⟨69, _⟩ => ⟨S1x2048x1x32, .f32⟩
  | .hbm, ⟨70, _⟩ => ⟨S16x2048x2x32, .f32⟩
  | .hbm, ⟨71, _⟩ => ⟨S16x2048x2x32, .f32⟩
  | .hbm, ⟨72, _⟩ => ⟨S16x2048x2x32, .f32⟩
  | .hbm, ⟨73, _⟩ => ⟨S16x2048x2x32, .f32⟩
  | .hbm, ⟨74, _⟩ => ⟨S16x2048x2x32, .f32⟩
  | .hbm, ⟨75, _⟩ => ⟨S16x2048x2x32, .f32⟩
  | .hbm, ⟨76, _⟩ => ⟨S16x2048x2x32, .f32⟩
  | .hbm, ⟨77, _⟩ => ⟨S16x2048x2x32, .f32⟩
  | .hbm, ⟨78, _⟩ => ⟨S16x2048x2x32, .f32⟩
  | .hbm, ⟨79, _⟩ => ⟨S16x2048x2x32, .f32⟩
  | .hbm, ⟨80, _⟩ => ⟨S16x2048x2x32, .f32⟩
  | .hbm, ⟨81, _⟩ => ⟨S16x2048x2x32, .f32⟩
  | .hbm, ⟨82, _⟩ => ⟨S16x2048x2x64, .f32⟩
  | .hbm, ⟨83, _⟩ => ⟨S1024x128, .f32⟩
  | .hbm, ⟨84, _⟩ => ⟨S16x2048x128, .f32⟩
  | .hbm, ⟨85, _⟩ => ⟨S16x2048x8x2x64, .f32⟩
  | .hbm, ⟨86, _⟩ => ⟨S16x2048x1024, .f32⟩
  | .hbm, ⟨87, _⟩ => ⟨S_, .f32⟩
  | .hbm, ⟨88, _⟩ => ⟨S16x2048x1024, .f32⟩
  | .hbm, ⟨89, _⟩ => ⟨S16x2048x1024, .f32⟩
  | .hbm, ⟨90, _⟩ => ⟨S16x2048x1024, .bf16⟩
  | .hbm, ⟨91, _⟩ => ⟨S16x2048x128, .f32⟩
  | .hbm, ⟨92, _⟩ => ⟨S16x2048x128, .bf16⟩
  | .hbm, ⟨93, _⟩ => ⟨S16x2048x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_2 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩

abbrev nD : Nat := 1
abbrev τ : Topo := Topo.v7x

variable {F : FTy → Type} [FloatOps F]
-- ==== Kernel7.lean ====
abbrev S16x256x1024 : Shape := ⟨3, ![16, 256, 1024]⟩
abbrev S6144 : Shape := ⟨1, ![6144]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S1x1x6144 : Shape := ⟨3, ![1, 1, 6144]⟩
abbrev S1x512x1024 : Shape := ⟨3, ![1, 512, 1024]⟩
abbrev S1x1x1024 : Shape := ⟨3, ![1, 1, 1024]⟩
abbrev S1x1024 : Shape := ⟨2, ![1, 1024]⟩
abbrev S512x1024 : Shape := ⟨2, ![512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1x4096x1024, .f32⟩
  | .hbm, ⟨9, _⟩ => ⟨S1x1x6144, .f32⟩
  | .hbm, ⟨10, _⟩ => ⟨S1x4096x1024, .bf16⟩
  | .hbm, ⟨11, _⟩ => ⟨S1x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16x256x1024 : Shape := ⟨3, ![16, 256, 1024]⟩
abbrev S6144 : Shape := ⟨1, ![6144]⟩
abbrev S1x1024x1024 : Shape := ⟨3, ![1, 1024, 1024]⟩
abbrev S1024 : Shape := ⟨1, ![1024]⟩
abbrev S_ : Shape := ⟨0, ![]⟩
abbrev S1x1x1024 : Shape := ⟨3, ![1, 1, 1024]⟩
abbrev S1024x1024 : Shape := ⟨2, ![1024, 1024]⟩
abbrev S1x4096x1024 : Shape := ⟨3, ![1, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1x1024, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S1024x1024, .f32⟩
  | .hbm, ⟨20, _⟩ => ⟨S16x256x1024, .f32⟩
  | .hbm, ⟨21, _⟩ => ⟨S1024x1024, .f32⟩
  | .hbm, ⟨22, _⟩ => ⟨S16x256x1024, .f32⟩
  | .hbm, ⟨23, _⟩ => ⟨S1x4096x1024, .f32⟩
  | .hbm, ⟨24, _⟩ => ⟨S1x4096x1024, .bf16⟩
  | .hbm, ⟨25, _⟩ => ⟨S1x4096x1024, .f32⟩
  | .hbm, ⟨26, _⟩ => ⟨S1x4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel8.lean ====
abbrev S16x256x1024 : Shape := ⟨3, ![16, 256, 1024]⟩
abbrev S6144 : Shape := ⟨1, ![6144]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x2x8x64 : Shape := ⟨4, ![1024, 2, 8, 64]⟩
abbrev S1024x8x2x64 : Shape := ⟨4, ![1024, 8, 2, 64]⟩
abbrev S1024x128 : Shape := ⟨2, ![1024, 128]⟩
abbrev S1x4096x1024 : Shape := ⟨3, ![1, 4096, 1024]⟩
abbrev S1x1x6144 : Shape := ⟨3, ![1, 1, 6144]⟩
abbrev S1x4096x128 : Shape := ⟨3, ![1, 4096, 128]⟩
abbrev S1x512x1024 : Shape := ⟨3, ![1, 512, 1024]⟩
abbrev S1x512x128 : Shape := ⟨3, ![1, 512, 128]⟩
abbrev S1x1x1024 : Shape := ⟨3, ![1, 1, 1024]⟩
abbrev S1x1024 : Shape := ⟨2, ![1, 1024]⟩
abbrev S512x1024 : Shape := ⟨2, ![512, 1024]⟩
abbrev S512x128 : Shape := ⟨2, ![512, 128]⟩

abbrev nBuf : Space → Nat
  | .hbm => 19
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1x1024x1024, .f32⟩
  | .hbm, ⟨3, _⟩ => ⟨S1x1024x128, .f32⟩
  | .hbm, ⟨4, _⟩ => ⟨S1x1024x128, .f32⟩
  | .hbm, ⟨5, _⟩ => ⟨S1024x1024, .f32⟩
  | .hbm, ⟨6, _⟩ => ⟨S1024x2x8x64, .f32⟩
  | .hbm, ⟨7, _⟩ => ⟨S1024x8x2x64, .f32⟩
  | .hbm, ⟨8, _⟩ => ⟨S1024x1024, .f32⟩
  | .hbm, ⟨9, _⟩ => ⟨S1024x1024, .bf16⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .bf16⟩
  | .hbm, ⟨14, _⟩ => ⟨S1x4096x1024, .f32⟩
  | .hbm, ⟨15, _⟩ => ⟨S1x1x6144, .f32⟩
  | .hbm, ⟨16, _⟩ => ⟨S1x4096x1024, .bf16⟩
  | .hbm, ⟨17, _⟩ => ⟨S1x4096x128, .bf16⟩
  | .hbm, ⟨18, _⟩ => ⟨S1x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1024x1024, .bf16⟩
  | .local _ .vmem, ⟨4, _⟩ => ⟨S1024x128, .bf16⟩
  | .local _ .vmem, ⟨5, _⟩ => ⟨S1024x128, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S16x256x1024 : Shape := ⟨3, ![16, 256, 1024]⟩
abbrev S6144 : Shape := ⟨1, ![6144]⟩
abbrev S1x1024x1024 : Shape := ⟨3, ![1, 1024, 1024]⟩
abbrev S1x1024x128 : Shape := ⟨3, ![1, 1024, 128]⟩
abbrev S1024 : Shape := ⟨1, ![1024]⟩
abbrev S_ : Shape := ⟨0, ![]⟩
abbrev S1x1x1024 : Shape := ⟨3, ![1, 1, 1024]⟩
abbrev S1024x1024 : Shape := ⟨2, ![1024, 1024]⟩
abbrev S16x256x2x8x64 : Shape := ⟨5, ![16, 256, 2, 8, 64]⟩
abbrev S16x256x8x2x64 : Shape := ⟨5, ![16, 256, 8, 2, 64]⟩
abbrev S1x4096x1024 : Shape := ⟨3, ![1, 4096, 1024]⟩
abbrev S1024x128 : Shape := ⟨2, ![1024, 128]⟩
abbrev S16x256x128 : Shape := ⟨3, ![16, 256, 128]⟩
abbrev S1x4096x128 : Shape := ⟨3, ![1, 4096, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1x1024x1024, .f32⟩
  | .hbm, ⟨3, _⟩ => ⟨S1x1024x128, .f32⟩
  | .hbm, ⟨4, _⟩ => ⟨S1x1024x128, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1x1x1024, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S1024x1024, .f32⟩
  | .hbm, ⟨21, _⟩ => ⟨S16x256x1024, .f32⟩
  | .hbm, ⟨22, _⟩ => ⟨S16x256x2x8x64, .f32⟩
  | .hbm, ⟨23, _⟩ => ⟨S16x256x8x2x64, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S1024x128, .f32⟩
  | .hbm, ⟨29, _⟩ => ⟨S16x256x128, .f32⟩
  | .hbm, ⟨30, _⟩ => ⟨S1024x128, .f32⟩
  | .hbm, ⟨31, _⟩ => ⟨S16x256x128, .f32⟩
  | .hbm, ⟨32, _⟩ => ⟨S1x4096x1024, .bf16⟩
  | .hbm, ⟨33, _⟩ => ⟨S1x4096x128, .f32⟩
  | .hbm, ⟨34, _⟩ => ⟨S1x4096x128, .bf16⟩
  | .hbm, ⟨35, _⟩ => ⟨S1x4096x128, .f32⟩
  | .hbm, ⟨36, _⟩ => ⟨S1x4096x128, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.PostSpec.lean ====
module

public import Idealize.ShloMosaic.Lib.Pointwise

@[expose] public section

set_option maxRecDepth 16384

/-! One row of the block that closes a layer: the attention's output projection, a LayerNorm of the gated residual, the
squared-ReLU MLP of the modulated row, and a second LayerNorm. Both programs are read as this row function. -/

noncomputable section

namespace Cert.Post

open Idealize.ShloMosaic

/-- The mean of a row of 1024 entries. -/
def mean (f : Fin 1024 → EReal) : EReal := Ideal.div (∑ k, f k) (Ideal.ofBits .f32 0x44800000#32)

/-- The row's entries less their mean. -/
def centre (f : Fin 1024 → EReal) (j : Fin 1024) : EReal := f j - mean f

/-- A centred row scaled to unit variance, then the gain and the bias. -/
def rescale (f g b : Fin 1024 → EReal) (j : Fin 1024) : EReal :=
  f j * Ideal.rsqrt (mean (fun k => f k * f k) + Ideal.ofBits .f32 0x3727C5AC#32) * g j + b j

/-- The residual of a sublayer's output under DeepNorm's constant and a gate. -/
def residual (x gate y : Fin 1024 → EReal) (j : Fin 1024) : EReal :=
  Ideal.ofBits .f32 0x3FB504F3#32 * x j + gate j * y j

/-- The output projection of a row of attention heads. -/
def project (a : Fin 1024 → EReal) (wo : Fin 1024 → Fin 1024 → EReal) (j : Fin 1024) : EReal := ∑ k, a k * wo k j

/-- A row modulated by a scale and a shift. -/
def modulate (x scale shift : Fin 1024 → EReal) (j : Fin 1024) : EReal := x j * (1 + scale j) + shift j

/-- A hidden unit: the square of the positive part of its pre-activation. -/
def unit {n : ℕ} (h : Fin 1024 → EReal) (w1 : Fin 1024 → Fin n → EReal) (u : Fin n) : EReal :=
  max (∑ d, h d * w1 d u) 0 * max (∑ d, h d * w1 d u) 0

/-- The MLP on a row, over any number of hidden units. -/
def mlp {n : ℕ} (h : Fin 1024 → EReal) (w1 : Fin 1024 → Fin n → EReal) (w2 : Fin n → Fin 1024 → EReal) (j : Fin 1024) : EReal :=
  ∑ u, unit h w1 u * w2 u j

/-- The row after the first LayerNorm. -/
def mid (a x gate1 g1 b1 : Fin 1024 → EReal) (wo : Fin 1024 → Fin 1024 → EReal) : Fin 1024 → EReal :=
  rescale (centre (residual x gate1 (project a wo))) g1 b1

/-- The whole row: the second LayerNorm of the first one's gated residual with the MLP. -/
def row (a x gate1 shift2 scale2 gate2 g1 b1 g2 b2 : Fin 1024 → EReal) (wo : Fin 1024 → Fin 1024 → EReal)
    (w1 : Fin 1024 → Fin 4096 → EReal) (w2 : Fin 4096 → Fin 1024 → EReal) : Fin 1024 → EReal :=
  rescale (centre (residual (mid a x gate1 g1 b1 wo) gate2
    (mlp (modulate (mid a x gate1 g1 b1 wo) scale2 shift2) w1 w2))) g2 b2

/-- The MLP over 4096 hidden units is the sum of its four quarters. -/
theorem mlp_quarters (h : Fin 1024 → EReal) (w1 : Fin 1024 → Fin 4096 → EReal) (w2 : Fin 4096 → Fin 1024 → EReal) (j : Fin 1024) :
    mlp h w1 w2 j = mlp h (fun d (u : Fin 1024) => w1 d ⟨0 + u, by omega⟩) (fun u => w2 ⟨0 + u, by omega⟩) j
      + mlp h (fun d (u : Fin 1024) => w1 d ⟨1024 + u, by omega⟩) (fun u => w2 ⟨1024 + u, by omega⟩) j
      + mlp h (fun d (u : Fin 1024) => w1 d ⟨2048 + u, by omega⟩) (fun u => w2 ⟨2048 + u, by omega⟩) j
      + mlp h (fun d (u : Fin 1024) => w1 d ⟨3072 + u, by omega⟩) (fun u => w2 ⟨3072 + u, by omega⟩) j := by
  unfold mlp
  rw [Fin.sum_univ_tiles 4 1024 rfl, Fin.sum_univ_four]
  rfl

end Cert.Post

end
-- ==== Proof.PostPay.lean ====
module

public import proofs.«01_k».proof.Proof.PostSpec
public import proofs.«01_k».proof.Proof.Gen.Kernel2Ideal.Value

@[expose] public section

set_option maxRecDepth 16384

/-! The kernel's values for the layer's last block, read at an index in the terms of `PostSpec`. -/

noncomputable section

namespace Cert.Post.Pay

open Idealize.ShloMosaic
open Cert.Kernel2Ideal Cert.Kernel2Ideal.Gen

/-- The first LayerNorm's centred argument. -/
theorem pay7 (v0 : Vec Ideal S1x1x1024 .f32) (v8 : Vec Ideal S1x512x1024 .bf16) (v10 : Vec Ideal S1024x1024 .bf16)
    (v13 : Vec Ideal S1x512x1024 .f32) (r : Fin 512) (j : Fin 1024) :
    k0_pay7 (F := Ideal) v0 v8 v10 v13 (ix2 r j)
      = centre (residual (fun k => v13 (ix3 0 r k)) (fun k => v0 (ix3 0 0 k))
          (project (fun k => v8 (ix3 0 r k)) (fun k l => v10 (ix2 k l)))) j := by
  pointwise! [k0_pay7, centre, mean, residual, project]

/-- The first LayerNorm, of its centred argument. -/
theorem pay8 (v21 v23 : FVec Ideal S1x1024 .f32) (v29 : FVec Ideal S512x1024 .f32) (r : Fin 512) (j : Fin 1024) :
    k0_pay8 (F := Ideal) v21 v23 v29 (ix2 r j)
      = rescale (fun k => v29 (ix2 r k)) (fun k => v21 (ix2 0 k)) (fun k => v23 (ix2 0 k)) j := by
  pointwise! [k0_pay8, mean, rescale]

/-- The modulated row. -/
theorem pay9 (v3 v5 v21 v23 : FVec Ideal S1x1024 .f32) (v29 : FVec Ideal S512x1024 .f32) (r : Fin 512) (j : Fin 1024) :
    k0_pay9 (F := Ideal) v3 v5 v21 v23 v29 (ix2 r j)
      = modulate (fun k => k0_pay8 (F := Ideal) v21 v23 v29 (ix2 r k)) (fun k => v5 (ix2 0 k)) (fun k => v3 (ix2 0 k)) j := by
  pointwise! [k0_pay9, modulate]

/-- The MLP's first quarter. -/
theorem pay10 (v3 v5 v21 v23 : FVec Ideal S1x1024 .f32) (v29 : FVec Ideal S512x1024 .f32) (v52 v59 : Vec Ideal S1024x1024 .bf16)
    (r : Fin 512) (j : Fin 1024) :
    k0_pay10 (F := Ideal) v3 v5 v21 v23 v29 v52 v59 (ix2 r j)
      = mlp (fun k => k0_pay9 (F := Ideal) v3 v5 v21 v23 v29 (ix2 r k)) (fun d u => v52 (ix2 d u)) (fun u d => v59 (ix2 u d)) j := by
  pointwise! [k0_pay10, mlp, unit]

/-- The hidden units of the MLP's second quarter. -/
theorem pay11 (v3 v5 v21 v23 : FVec Ideal S1x1024 .f32) (v29 : FVec Ideal S512x1024 .f32) (v63 : Vec Ideal S1024x1024 .bf16)
    (r : Fin 512) (u : Fin 1024) :
    k0_pay11 (F := Ideal) v3 v5 v21 v23 v29 v63 (ix2 r u)
      = unit (fun k => k0_pay9 (F := Ideal) v3 v5 v21 v23 v29 (ix2 r k)) (fun d u => v63 (ix2 d u)) u := by
  pointwise! [k0_pay11, unit]

/-- The second LayerNorm's argument, from the first quarter's part, the second quarter's hidden units and the other weights. -/
theorem pay13 (v7 : FVec Ideal S1x1024 .f32) (v43 : FVec Ideal S512x1024 .f32) (v50 : FVec Ideal S512x1024 .bf16)
    (v62 : FVec Ideal S512x1024 .f32) (v69 : FVec Ideal S512x1024 .bf16) (v71 : FVec Ideal S1024x1024 .bf16)
    (v74 v81 v85 v92 : Vec Ideal S1024x1024 .bf16) (r : Fin 512) (j : Fin 1024) :
    k0_pay13 (F := Ideal) v7 v43 v50 v62 v69 v71 v74 v81 v85 v92 (ix2 r j)
      = residual (fun k => v43 (ix2 r k)) (fun k => v7 (ix2 0 k)) (fun k => v62 (ix2 r k) + ∑ u, v69 (ix2 r u) * v71 (ix2 u k)
          + mlp (fun k => v50 (ix2 r k)) (fun d u => v74 (ix2 d u)) (fun u d => v81 (ix2 u d)) k
          + mlp (fun k => v50 (ix2 r k)) (fun d u => v85 (ix2 d u)) (fun u d => v92 (ix2 u d)) k) j := by
  pointwise! [k0_pay13, residual, mlp, unit]

/-- The mean of the second LayerNorm's argument. -/
theorem pay16 (v7 : FVec Ideal S1x1024 .f32) (v43 : FVec Ideal S512x1024 .f32) (v50 : FVec Ideal S512x1024 .bf16)
    (v62 : FVec Ideal S512x1024 .f32) (v69 : FVec Ideal S512x1024 .bf16) (v71 : FVec Ideal S1024x1024 .bf16)
    (v74 v81 v85 v92 : Vec Ideal S1024x1024 .bf16) (r : Fin 512) (j : Fin 1024) :
    k0_pay16 (F := Ideal) v7 v43 v50 v62 v69 v71 v74 v81 v85 v92 (ix2 r j)
      = mean (fun k => k0_pay13 (F := Ideal) v7 v43 v50 v62 v69 v71 v74 v81 v85 v92 (ix2 r k)) := by
  pointwise! [k0_pay16, mean]

/-- The second LayerNorm, from its argument and that argument's mean. -/
theorem pay1 (v100 v109 : FVec Ideal S512x1024 .f32) (v102 v104 : FVec Ideal S1x1024 .f32) (r : Fin 512) (j : Fin 1024) :
    k0_pay1 (F := Ideal) v100 v102 v104 v109 (ix3 0 r j)
      = rescale (fun k => v100 (ix2 r k) - v109 (ix2 r k)) (fun k => v102 (ix2 0 k)) (fun k => v104 (ix2 0 k)) j := by
  pointwise! [k0_pay1, mean, rescale]

end Cert.Post.Pay

end
-- ==== Proof.PostBlock.lean ====
module

public import proofs.«01_k».proof.Proof.PostPay
public import Idealize.ShloMosaic.Lib.Pipeline.ValueKit

@[expose] public section

set_option maxRecDepth 16384

/-! What one grid point of the layer's last block leaves in its output block. -/

noncomputable section

namespace Cert.Post.Pay

open Idealize.ShloMosaic
open Cert.Kernel2Ideal Cert.Kernel2Ideal.Gen

variable (x0 : Vec Ideal S1x512x1024 .bf16) (x1 : Vec Ideal S1x512x1024 .f32) (x2 : Vec Ideal S1x1x6144 .f32)
  (x3 : Vec Ideal S1024x1024 .bf16) (x4 : Vec Ideal S1024x4096 .bf16) (x5 : Vec Ideal S4096x1024 .bf16)
  (x6 : Vec Ideal S4x1024 .f32) (r : Fin 512)

/-- The row after the first LayerNorm, in terms of the input blocks. -/
theorem mid_eq : (fun k => k0_pay23 (F := Ideal) x0 x1 x2 x3 x4 x5 x6 (ix2 r k))
    = mid (fun k => x0 (ix3 0 r k)) (fun k => x1 (ix3 0 r k)) (fun k => x2 (ix3 0 0 ⟨2048 + k, by omega⟩))
        (fun k => x6 (ix2 0 k)) (fun k => x6 (ix2 1 k)) (fun k l => x3 (ix2 k l)) := by
  funext j
  rw [k0_pay23, pay8]
  simp only [k0_pay22, pay7]
  pointwise [k0_pay20, k0_pay21, k0_pay5, k0_pay6]
  rfl

/-- The modulated row, in terms of the input blocks. -/
theorem mod_eq : (fun k => k0_pay24 (F := Ideal) x0 x1 x2 x3 x4 x5 x6 (ix2 r k))
    = modulate (fun k => k0_pay23 (F := Ideal) x0 x1 x2 x3 x4 x5 x6 (ix2 r k)) (fun k => x2 (ix3 0 0 ⟨4096 + k, by omega⟩))
        (fun k => x2 (ix3 0 0 ⟨3072 + k, by omega⟩)) := by
  funext j
  rw [k0_pay24, pay9]
  pointwise [k0_pay17, k0_pay18, k0_pay2, k0_pay3]
  rfl

/-- The output block at an index is the row function of the input blocks. -/
theorem block (j : Fin 1024) : out0_7 (F := Ideal) x0 x1 x2 x3 x4 x5 x6 (ix3 0 r j)
    = row (fun k => x0 (ix3 0 r k)) (fun k => x1 (ix3 0 r k)) (fun k => x2 (ix3 0 0 ⟨2048 + k, by omega⟩))
        (fun k => x2 (ix3 0 0 ⟨3072 + k, by omega⟩)) (fun k => x2 (ix3 0 0 ⟨4096 + k, by omega⟩)) (fun k => x2 (ix3 0 0 ⟨5120 + k, by omega⟩))
        (fun k => x6 (ix2 0 k)) (fun k => x6 (ix2 1 k)) (fun k => x6 (ix2 2 k)) (fun k => x6 (ix2 3 k))
        (fun k l => x3 (ix2 k l)) (fun d u => x4 (ix2 d u)) (fun u d => x5 (ix2 u d)) j := by
  frame_out
  rw [pay1]
  simp only [pay16]
  have hsum : (fun k => k0_pay13 (F := Ideal) (k0_pay19 x0 x1 x2 x3 x4 x5 x6) (k0_pay23 x0 x1 x2 x3 x4 x5 x6) (k0_pay24 x0 x1 x2 x3 x4 x5 x6)
        (k0_pay25 x0 x1 x2 x3 x4 x5 x6) (k0_pay26 x0 x1 x2 x3 x4 x5 x6) (k0_pay27 x0 x1 x2 x3 x4 x5 x6)
        (View.ld x4 r0_12) (View.ld x5 r0_13) (View.ld x4 r0_14) (View.ld x5 r0_15) (ix2 r k))
      = residual (fun k => k0_pay23 (F := Ideal) x0 x1 x2 x3 x4 x5 x6 (ix2 r k)) (fun k => x2 (ix3 0 0 ⟨5120 + k, by omega⟩))
          (mlp (fun k => k0_pay24 (F := Ideal) x0 x1 x2 x3 x4 x5 x6 (ix2 r k)) (fun d u => x4 (ix2 d u)) (fun u d => x5 (ix2 u d))) := by
    funext k
    rw [pay13]
    rw [show mlp (fun k => k0_pay24 (F := Ideal) x0 x1 x2 x3 x4 x5 x6 (ix2 r k)) (fun d u => x4 (ix2 d u)) (fun u d => x5 (ix2 u d))
      = _ from funext (mlp_quarters _ _ _)]
    simp only [k0_pay25, k0_pay26, pay10, pay11, Nat.zero_add]
    pointwise [k0_pay27, k0_pay19, k0_pay4, k0_pay12]
    rfl
  have hat := fun k => congrFun hsum k
  simp only [hat, hsum, mid_eq, mod_eq]
  pointwise [k0_pay14, k0_pay15]
  rfl

end Cert.Post.Pay

end
-- ==== Proof.PostRef.lean ====
module

public import proofs.«01_k».proof.Proof.PostSpec
public import proofs.«01_k».proof.Proof.Gen.Reference2Ideal.Read

@[expose] public section

set_option maxRecDepth 16384

/-! The reference of the layer's last block, read at an index: it is the row function of `PostSpec`. -/

noncomputable section

namespace Cert.Post.Ref

open Idealize.ShloMosaic Idealize.ShloMosaic.StableHlo
open Cert.Reference2Ideal Cert.Reference2Ideal.Gen Cert.Reference2Ideal.Read

variable (x0 x1 : FVec Ideal S16x2048x1024 .f32) (x2 : FVec Ideal S16x6144 .f32) (x3 : FVec Ideal S1x1024x1024 .f32)
  (x4 x5 x6 x7 : FVec Ideal S2x1024 .f32) (x8 : FVec Ideal S2x1024x4096 .f32) (x9 : FVec Ideal S2x4096x1024 .f32)
  (b : Fin 16) (r : Fin 2048) (j : Fin 1024)

/-- The first LayerNorm's argument. -/
theorem v13 : val_main_v13 (F := Ideal) x0 x1 x2 x3 (ix3 b r j)
    = residual (fun k => x1 (ix3 b r k)) (fun k => x2 (ix2 b ⟨2048 + k, by omega⟩))
        (project (fun k => x0 (ix3 b r k)) (fun k l => x3 (ix3 0 k l))) j := by
  pointwise [val_main_v13, val_main_v12, val_main_v11, val_main_v10, val_main_v9, val_main_cst, val_main_v8, val_main_v7,
    val_main_v3, val_main_v0, residual, project]

/-- The first LayerNorm's argument, centred. -/
theorem v30 : val_main_v30 (F := Ideal) x0 x1 x2 x3 (ix3 b r j)
    = centre (fun k => val_main_v13 (F := Ideal) x0 x1 x2 x3 (ix3 b r k)) j := by
  pointwise [val_main_v30, val_main_v29, val_main_v21, val_main_v20, val_main_cst_1, val_main_v19, val_main_v18, val_main_cst_0,
    centre, mean]

/-- The first LayerNorm, of its centred argument. -/
theorem v41 : val_main_v41 (F := Ideal) x0 x1 x2 x3 x4 x5 (ix3 b r j)
    = rescale (fun k => val_main_v30 (F := Ideal) x0 x1 x2 x3 (ix3 b r k)) (fun k => x4 (ix2 1 k)) (fun k => x5 (ix2 1 k)) j := by
  have h : val_main_v23 (F := Ideal) x0 x1 x2 x3 = val_main_v30 (F := Ideal) x0 x1 x2 x3 := rfl
  pointwise [val_main_v41, val_main_v40, val_main_v39, val_main_v38, val_main_v37, val_main_v36, val_main_v35, val_main_v34,
    val_main_v33, val_main_v32, val_main_v31, val_main_cst_4, val_main_v28, val_main_v27, val_main_cst_3, val_main_v26,
    val_main_v25, val_main_cst_2, val_main_v24, h, val_main_v17, val_main_v16, val_main_v15, val_main_v14, rescale, mean]

/-- The MLP's argument: the modulated row. -/
theorem v47 : val_main_v47 (F := Ideal) x0 x1 x2 x3 x4 x5 (ix3 b r j)
    = modulate (fun k => val_main_v41 (F := Ideal) x0 x1 x2 x3 x4 x5 (ix3 b r k)) (fun k => x2 (ix2 b ⟨4096 + k, by omega⟩))
        (fun k => x2 (ix2 b ⟨3072 + k, by omega⟩)) j := by
  pointwise [val_main_v47, val_main_v46, val_main_v45, val_main_v44, val_main_v43, val_main_v42, val_main_cst_5, val_main_v5,
    val_main_v4, val_main_v0, modulate]

/-- The MLP. -/
theorem v55 : val_main_v55 (F := Ideal) x0 x1 x2 x3 x4 x5 x8 x9 (ix3 b r j)
    = mlp (fun k => val_main_v47 (F := Ideal) x0 x1 x2 x3 x4 x5 (ix3 b r k)) (fun d (u : Fin 4096) => x8 (ix3 1 d u))
        (fun u d => x9 (ix3 1 u d)) j := by
  pointwise [val_main_v55, val_main_v54, val_main_v53, val_main_call0_v0, val_main_call0_cst, val_main_v52, val_main_v51, val_main_v50, val_main_v49, val_main_v48,
    mlp, unit]

/-- The second LayerNorm's argument. -/
theorem v60 : val_main_v60 (F := Ideal) x0 x1 x2 x3 x4 x5 x8 x9 (ix3 b r j)
    = residual (fun k => val_main_v41 (F := Ideal) x0 x1 x2 x3 x4 x5 (ix3 b r k)) (fun k => x2 (ix2 b ⟨5120 + k, by omega⟩))
        (fun k => val_main_v55 (F := Ideal) x0 x1 x2 x3 x4 x5 x8 x9 (ix3 b r k)) j := by
  pointwise [val_main_v60, val_main_v59, val_main_v58, val_main_v57, val_main_v56, val_main_cst_6, val_main_v6, val_main_v0, residual]

/-- The second LayerNorm's argument, centred. -/
theorem v77 : val_main_v77 (F := Ideal) x0 x1 x2 x3 x4 x5 x8 x9 (ix3 b r j)
    = centre (fun k => val_main_v60 (F := Ideal) x0 x1 x2 x3 x4 x5 x8 x9 (ix3 b r k)) j := by
  pointwise [val_main_v77, val_main_v76, val_main_v68, val_main_v67, val_main_cst_8, val_main_v66, val_main_v65, val_main_cst_7,
    centre, mean]

/-- The second LayerNorm, of its centred argument. -/
theorem v88 : val_main_v88 (F := Ideal) x0 x1 x2 x3 x4 x5 x6 x7 x8 x9 (ix3 b r j)
    = rescale (fun k => val_main_v77 (F := Ideal) x0 x1 x2 x3 x4 x5 x8 x9 (ix3 b r k)) (fun k => x6 (ix2 1 k)) (fun k => x7 (ix2 1 k)) j := by
  have h : val_main_v70 (F := Ideal) x0 x1 x2 x3 x4 x5 x8 x9 = val_main_v77 (F := Ideal) x0 x1 x2 x3 x4 x5 x8 x9 := rfl
  pointwise [val_main_v88, val_main_v87, val_main_v86, val_main_v85, val_main_v84, val_main_v83, val_main_v82, val_main_v81,
    val_main_v80, val_main_v79, val_main_v78, val_main_cst_11, val_main_v75, val_main_v74, val_main_cst_10, val_main_v73,
    val_main_v72, val_main_cst_9, val_main_v71, h, val_main_v64, val_main_v63, val_main_v62, val_main_v61, rescale, mean]

/-- The reference at an index is the row function of the arguments' rows. -/
theorem ref_eq : val_main_v88 (F := Ideal) x0 x1 x2 x3 x4 x5 x6 x7 x8 x9 (ix3 b r j)
    = row (fun k => x0 (ix3 b r k)) (fun k => x1 (ix3 b r k)) (fun k => x2 (ix2 b ⟨2048 + k, by omega⟩))
        (fun k => x2 (ix2 b ⟨3072 + k, by omega⟩)) (fun k => x2 (ix2 b ⟨4096 + k, by omega⟩)) (fun k => x2 (ix2 b ⟨5120 + k, by omega⟩))
        (fun k => x4 (ix2 1 k)) (fun k => x5 (ix2 1 k)) (fun k => x6 (ix2 1 k)) (fun k => x7 (ix2 1 k))
        (fun k l => x3 (ix3 0 k l)) (fun d u => x8 (ix3 1 d u)) (fun u d => x9 (ix3 1 u d)) j := by
  have hmid : (fun k => val_main_v41 (F := Ideal) x0 x1 x2 x3 x4 x5 (ix3 b r k))
      = mid (fun k => x0 (ix3 b r k)) (fun k => x1 (ix3 b r k)) (fun k => x2 (ix2 b ⟨2048 + k, by omega⟩))
        (fun k => x4 (ix2 1 k)) (fun k => x5 (ix2 1 k)) (fun k l => x3 (ix3 0 k l)) := by
    funext k; rw [v41]; simp only [v30, v13]; rfl
  rw [v88]
  simp only [v77, v60, v55, v47, hmid]
  rfl

end Cert.Post.Ref

end
-- ==== Proof.PostLn.lean ====
module

public import proofs.«01_k».proof.Proof.Gen.Kernel2Ideal.Value
public import Idealize.ShloMosaic.Lib.Pipeline.ValueKit
public import Idealize.ShloMosaic.Lib.StableHlo.RunRead
public import Idealize.ShloMosaic.Lib.Claim

@[expose] public section

set_option maxRecDepth 16384

/-! The rows of LayerNorm gains and biases that the host stacks for the last block. -/

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The stack, as the concatenation of the four rows the host has cut out before it. -/
theorem ln_stack : V m c main_v12 = concatenate S4x1024 0
    [⟨S1x1024, (StableHlo.after (hostOps0.take 12) (fun b => m (c, b)) main_v8 : Vec Ideal S1x1024 .f32)⟩,
     ⟨S1x1024, (StableHlo.after (hostOps0.take 12) (fun b => m (c, b)) main_v9 : Vec Ideal S1x1024 .f32)⟩,
     ⟨S1x1024, (StableHlo.after (hostOps0.take 12) (fun b => m (c, b)) main_v10 : Vec Ideal S1x1024 .f32)⟩,
     ⟨S1x1024, (StableHlo.after (hostOps0.take 12) (fun b => m (c, b)) main_v11 : Vec Ideal S1x1024 .f32)⟩]
    concatenates_S1x1024_S1x1024_S1x1024_S1x1024_S4x1024_d0 := by
  refine (StableHlo.after_last_write (i := 12) [main_v13, main_v14, main_v15, main_v16, main_v17, main_v18, main_v19, main_v20, main_v21, main_v22]
    rfl rfl (by decide) _).trans ?_
  exact StableHlo.nary4_result _ _ _ _

/-- Row 0 of the stack is the gain of the first LayerNorm. -/
theorem ln0 (k : Fin 1024) : (V m c main_v12 : Vec Ideal S4x1024 .f32) (ix2 0 k) = m ((c : Thread nD τ).loc main_arg4) (ix2 1 k) := by
  rw [ln_stack]
  pointwise
  simp only [hostOps0, List.take_succ_cons, List.take_zero]
  entry_read
  pointwise

/-- Row 1 of the stack is the bias of the first LayerNorm. -/
theorem ln1 (k : Fin 1024) : (V m c main_v12 : Vec Ideal S4x1024 .f32) (ix2 1 k) = m ((c : Thread nD τ).loc main_arg5) (ix2 1 k) := by
  rw [ln_stack]
  pointwise
  simp only [hostOps0, List.take_succ_cons, List.take_zero]
  entry_read
  pointwise

/-- Row 2 of the stack is the gain of the second LayerNorm. -/
theorem ln2 (k : Fin 1024) : (V m c main_v12 : Vec Ideal S4x1024 .f32) (ix2 2 k) = m ((c : Thread nD τ).loc main_arg6) (ix2 1 k) := by
  rw [ln_stack]
  pointwise
  simp only [hostOps0, List.take_succ_cons, List.take_zero]
  entry_read
  pointwise

/-- Row 3 of the stack is the bias of the second LayerNorm. -/
theorem ln3 (k : Fin 1024) : (V m c main_v12 : Vec Ideal S4x1024 .f32) (ix2 3 k) = m ((c : Thread nD τ).loc main_arg7) (ix2 1 k) := by
  rw [ln_stack]
  pointwise
  simp only [hostOps0, List.take_succ_cons, List.take_zero]
  entry_read
  pointwise

end Cert.Kernel2Ideal.Value

end
-- ==== Proof.PostVal.lean ====
module

public import proofs.«01_k».proof.Proof.PostBlock
public import proofs.«01_k».proof.Proof.PostRef
public import proofs.«01_k».proof.Proof.PostLn
public import proofs.«01_k».proof.Proof.Gen.Kernel2Ideal.Value
public import Idealize.ShloMosaic.Lib.Pipeline.ValueKit
public import Idealize.ShloMosaic.Lib.Claim

@[expose] public section

set_option maxRecDepth 16384

/-! The last block's output array as the row function of the argument arrays. -/

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

/-- Where each window's block lies at grid point `t`: batch `t / 4`, row tile `t % 4`, the weights whole. -/
theorem idx : ∀ t : Fin cfg0.N, win0_0.index t = ![(t : ℕ) / 4, (t : ℕ) % 4, 0] ∧ win0_1.index t = ![(t : ℕ) / 4, (t : ℕ) % 4, 0]
    ∧ win0_2.index t = ![(t : ℕ) / 4, 0, 0] ∧ win0_3.index t = ![0, 0] ∧ win0_4.index t = ![0, 0] ∧ win0_5.index t = ![0, 0]
    ∧ win0_6.index t = ![0, 0] ∧ win0_7.index t = ![(t : ℕ) / 4, (t : ℕ) % 4, 0] :=
  (by decide +kernel : ∀ t : Fin grid0.N, _)

variable (m : (ℓ : Loc nD τ sig) → Buf (Elt Ideal) ℓ) (c : Dev nD)

/-- The output array is the reference's result, read over the argument arrays. -/
theorem final : (dats m 0 c).arrAt 7 cfg0.N
    = Cert.Reference2Ideal.Read.val_main_v88 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 7 _ (by decide +kernel) fun t _ y => ?_
  blk_simp
  rw [after0_7]
  idx_vars y
  obtain rfl : y0 = 0 := Subsingleton.elim _ _
  have ht : (t : ℕ) < 64 := t.isLt
  refine (Cert.Post.Pay.block _ _ _ _ _ _ _ y1 y2).trans (Eq.trans ?_ ((congrArg _ (?_ : _ = ix3 (⟨(t : ℕ) / 4, by omega⟩ : Fin 16)
    (⟨(t : ℕ) % 4 * 512 + y1, by omega⟩ : Fin 2048) y2)).trans (Cert.Post.Ref.ref_eq _ _ _ _ _ _ _ _ _ _ _ _ _)).symm)
  · have hln : ∀ (a : Fin 4) (k : Fin 1024), (iblk m c 6 t : Vec Ideal S4x1024 .f32) (ix2 a k) = (V m c main_v12 : Vec Ideal S4x1024 .f32) (ix2 a k) := by
      intro a k
      blk_ext [iblk, idx t]
    congr 1 <;> funext k
    · blk_point [iblk, V, idx t]
    · blk_point [iblk, V, idx t]
    · blk_point [iblk, V, idx t]
    · blk_point [iblk, V, idx t]
    · blk_point [iblk, V, idx t]
    · blk_point [iblk, V, idx t]
    · exact (hln 0 k).trans (ln0 m c k)
    · exact (hln 1 k).trans (ln1 m c k)
    · exact (hln 2 k).trans (ln2 m c k)
    · exact (hln 3 k).trans (ln3 m c k)
    all_goals (funext l; blk_point [iblk, V, idx t])
  · blk_ext [idx t]

end Cert.Kernel2Ideal.Value

end
-- ==== Proof.PostTwin.lean ====
module

public import proofs.«01_k».proof.Defs
public import proofs.«01_k».proof.Proof.Gen.Kernel2
public import proofs.«01_k».proof.Proof.Gen.Kernel2Ideal.Frame

@[expose] public section

set_option maxRecDepth 16384

/-! The last block's kernel on the machine's floats has the same text as its idealization: one run serves both frames. -/

noncomputable section

namespace Cert.Kernel2.Twin

open Idealize.ShloMosaic Idealize.SL.Sem

/-- The two body tables agree, label by label. -/
theorem bodies : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl

/-- So do the tables with the pipelines added. -/
theorem tables : Cert.Kernel2.defs (F := Bits) = Cert.Kernel2Ideal.defs (F := Bits) :=
  congrArg (Pipeline.defs (Cert.Kernel2Ideal.pcfgs (F := Bits))) bodies

/-- The kernel runs, leaves its arguments as they were, and every semaphore at zero. -/
theorem frame : Cert.quiescent_Kernel2 := fun m ρ _ => by
  rw [tables]
  exact Cert.Kernel2Ideal.Gen.frame (F := Bits) m ρ

end Cert.Kernel2.Twin

end
-- ==== Proof.AttnSpec.lean ====
module

public import Idealize.ShloMosaic.Lib.Pipeline.ValueKit
public import Idealize.ShloMosaic.Lib.IdealHost

@[expose] public section

set_option maxRecDepth 16384

/-! One row of one head of the differential attention, as the kernel forms it and as the reference does. -/

noncomputable section

namespace Cert.Attn

open Idealize.ShloMosaic

/-- The weight of the second attention map, from the four learned vectors. -/
def lambda (a b c d : Fin 64 → EReal) : EReal :=
  Ideal.exp (∑ x, a x * b x) - Ideal.exp (∑ x, c x * d x) + Ideal.ofBits .f32 0x3EB60549#32

/-- The greatest score of a row. -/
def peak (s : Fin 2304 → EReal) : EReal :=
  Finset.fold max (Ideal.ofBits .f32 0xFF800000#32) s Finset.univ

/-- The kernel's softmax numerator, in base two. -/
def weight (s : Fin 2304 → EReal) (k : Fin 2304) : EReal := Ideal.exp2 (s k - peak s)

/-- The kernel's row before the norm: each map's weighted values, divided by the row sum the ones' row gives. -/
def mixed (l : EReal) (s0 s1 v one : Fin 2304 → EReal) : EReal :=
  Ideal.div (∑ k, v k * weight s0 k) (∑ k, one k * weight s0 k)
    - (∑ k, v k * weight s1 k) * Ideal.div l (∑ k, one k * weight s1 k)

/-- A row divided by its root mean square. -/
def normed (o : Fin 128 → EReal) (e : Fin 128) : EReal :=
  o e * Ideal.rsqrt (Ideal.div (∑ x, o x * o x) (Ideal.ofBits .f32 0x43000000#32) + Ideal.ofBits .f32 0x3727C5AC#32)

/-- The kernel's score of a key for the first map (lanes below 64) with the scale `z` on the query. -/
def lowScore (z : EReal) (q : Fin 128 → EReal) (K : Fin 2304 → Fin 128 → EReal) (k : Fin 2304) : EReal :=
  ∑ x : Fin 128, K k x * (if (x : ℕ) < 64 then q x * z else 0)

/-- The kernel's score of a key for the second map (lanes from 64 on). -/
def highScore (z : EReal) (q : Fin 128 → EReal) (K : Fin 2304 → Fin 128 → EReal) (k : Fin 2304) : EReal :=
  ∑ x : Fin 128, K k x * (if 64 ≤ (x : ℕ) then q x * z else 0)

/-- The reference's score of a key, over 64 lanes. -/
def score (q : Fin 64 → EReal) (K : Fin 2304 → Fin 64 → EReal) (k : Fin 2304) : EReal :=
  (∑ x, q x * K k x) * Ideal.ofBits .f32 0x3E000000#32

/-- The reference's softmax numerator. -/
def numer (s : Fin 2304 → EReal) (k : Fin 2304) : EReal :=
  Ideal.exp (s k - max (Ideal.ofBits .f32 0xFF800000#32) (peak s))

/-- The reference's softmax. -/
def soft (s : Fin 2304 → EReal) (k : Fin 2304) : EReal := Ideal.div (numer s k) (∑ x, numer s x)

/-- The reference's row before the norm: the values weighted by the difference of the two maps. -/
def differ (l : EReal) (s0 s1 v : Fin 2304 → EReal) : EReal :=
  ∑ k, v k * (soft s0 k - l * soft s1 k)

end Cert.Attn

end
-- ==== Proof.AttnPay.lean ====
module

public import proofs.«01_k».proof.Proof.AttnSpec
public import proofs.«01_k».proof.Proof.Gen.KernelIdeal.Value

@[expose] public section

set_option maxRecDepth 16384

/-! The kernel's values for the differential attention, read at an index in the terms of `AttnSpec`. -/

noncomputable section

namespace Cert.Attn.Pay

open Idealize.ShloMosaic
open Cert.KernelIdeal Cert.KernelIdeal.Gen

/-- The lane numbers the two maps' masks are made of. -/
abbrev lanes : IVec S512x128 32 := iota Kind.tc S512x128 32 [1] iota_S512x128_d1_w32

/-- The weight of the second map. -/
theorem pay2 (v0 v2 v8 v10 : Vec Ideal S1x64 .f32) : k0_pay2 (F := Ideal) v0 v2 v8 v10 (ix2 0 0)
    = lambda (fun x => v0 (ix2 0 x)) (fun x => v2 (ix2 0 x)) (fun x => v8 (ix2 0 x)) (fun x => v10 (ix2 0 x)) := by
  pointwise! [k0_pay2, lambda]

/-- A lane below 64 keeps the first map's query. -/
theorem low_lane (x : Fin 128) (a b : EReal) :
    Scalar.select (IntOp.cmpi CmpIPredicate.slt (BitVec.ofNat 32 ↑x) 64#32) a b = if (x : ℕ) < 64 then a else b := by
  have h : ∀ x : Fin 128, IntOp.cmpi CmpIPredicate.slt (BitVec.ofNat 32 ↑x) 64#32 = if (x : ℕ) < 64 then 1#1 else 0#1 := by decide
  rw [h]; split <;> rfl

/-- A lane from 64 on keeps the second map's query. -/
theorem high_lane (x : Fin 128) (a b : EReal) :
    Scalar.select (IntOp.cmpi CmpIPredicate.sge (BitVec.ofNat 32 ↑x) 64#32) a b = if 64 ≤ (x : ℕ) then a else b := by
  have h : ∀ x : Fin 128, IntOp.cmpi CmpIPredicate.sge (BitVec.ofNat 32 ↑x) 64#32 = if 64 ≤ (x : ℕ) then 1#1 else 0#1 := by decide
  rw [h]; split <;> rfl

/-- The scores of a tile, first map. -/
theorem pay16_low (q : Vec Ideal S1x512x128 .f32) (k : Vec Ideal S1x2304x128 .bf16) (r : Fin 512) (h : (r : ℕ) < 1024) :
    (fun a => k0_pay16 (F := Ideal) lanes q k (ix2 a ⟨r, h⟩))
      = lowScore (Named.named (F := Ideal) (φ := .f32) κ "qk_scale" 0x3E38AA3B#32) (fun x => q (ix3 0 r x)) (fun a x => k (ix3 0 a x)) := by
  funext a
  pointwise [k0_pay16]
  unfold lowScore
  refine Finset.sum_congr (M := EReal) rfl fun x _ => ?_
  rw [low_lane]
  split <;> simp only [mul_zero]

/-- The scores of a tile, second map. -/
theorem pay16_high (q : Vec Ideal S1x512x128 .f32) (k : Vec Ideal S1x2304x128 .bf16) (r : Fin 512) (h : 512 + (r : ℕ) < 1024) :
    (fun a => k0_pay16 (F := Ideal) lanes q k (ix2 a ⟨512 + r, h⟩))
      = highScore (Named.named (F := Ideal) (φ := .f32) κ "qk_scale" 0x3E38AA3B#32) (fun x => q (ix3 0 r x)) (fun a x => k (ix3 0 a x)) := by
  funext a
  pointwise [k0_pay16]
  unfold highScore
  refine Finset.sum_congr (M := EReal) rfl fun x _ => ?_
  rw [high_lane]
  split <;> simp only [mul_zero]

/-- A tile's output, from its scores and the values with the ones' row below them. -/
theorem pay20 (v18 : FVec Ideal S1x1 .f32) (v20 : Vec Ideal S128x1 .f32) (s : Vec Ideal S2304x1024 .f32) (v : Vec Ideal S1x144x2304 .bf16)
    (r : Fin 512) (e : Fin 128) :
    k0_pay20 (F := Ideal) v18 (k0_pay3 v20) s v (ix3 0 r e)
      = normed (fun e => mixed (v18 (ix2 0 0)) (fun k => s (ix2 k ⟨r, by omega⟩)) (fun k => s (ix2 k ⟨512 + r, by omega⟩))
          (fun k => v (ix3 0 ⟨e, by omega⟩ k)) (fun k => v (ix3 0 128 k))) e * (v20 (ix2 e 0) * Ideal.ofBits .f32 0x3F24FD5C#32) := by
  pointwise [k0_pay20, k0_pay3]
  rfl

/-- The value claim's tile: what one tile of one head leaves, at a row and a lane. -/
theorem tile (x0 x1 x2 x3 : Vec Ideal S1x64 .f32) (v20 : Vec Ideal S128x1 .f32) (q : Vec Ideal S1x512x128 .f32)
    (k : Vec Ideal S1x2304x128 .bf16) (v : Vec Ideal S1x144x2304 .bf16) (hone : ∀ a, v (ix3 0 128 a) = 1) (r : Fin 512) (e : Fin 128) :
    k0_pay20 (F := Ideal) (k0_pay2 x0 x1 x2 x3) (k0_pay3 v20) (k0_pay16 lanes q k) v (ix3 0 r e)
      = normed (fun e => mixed
            (lambda (fun x => x0 (ix2 0 x)) (fun x => x1 (ix2 0 x)) (fun x => x2 (ix2 0 x)) (fun x => x3 (ix2 0 x)))
            (lowScore (Named.named (F := Ideal) (φ := .f32) κ "qk_scale" 0x3E38AA3B#32) (fun x => q (ix3 0 r x)) (fun a x => k (ix3 0 a x)))
            (highScore (Named.named (F := Ideal) (φ := .f32) κ "qk_scale" 0x3E38AA3B#32) (fun x => q (ix3 0 r x)) (fun a x => k (ix3 0 a x)))
            (fun a => v (ix3 0 ⟨e, by omega⟩ a)) (fun _ => 1)) e * (v20 (ix2 e 0) * Ideal.ofBits .f32 0x3F24FD5C#32) := by
  rw [pay20, pay2, pay16_low, pay16_high]
  simp only [hone]

/-- The scores' payloads are one function. -/
theorem same19 (q : Vec Ideal S1x512x128 .f32) (k : Vec Ideal S1x2304x128 .bf16) :
    k0_pay19 (F := Ideal) (k0_pay17 lanes q) (k0_pay18 k) (constant S2304x1024 .f32 0#32) = k0_pay16 lanes q k := rfl
/-- The third tile's scores. -/
theorem same21 (q : Vec Ideal S1x512x128 .f32) (k : Vec Ideal S1x2304x128 .bf16) : k0_pay21 (F := Ideal) lanes q k = k0_pay16 lanes q k := rfl
/-- The fourth tile's scores. -/
theorem same24 (q : Vec Ideal S1x512x128 .f32) (k : Vec Ideal S1x2304x128 .bf16) : k0_pay24 (F := Ideal) lanes q k = k0_pay16 lanes q k := rfl
/-- The fifth tile's scores. -/
theorem same28 (q : Vec Ideal S1x512x128 .f32) (k : Vec Ideal S1x2304x128 .bf16) :
    k0_pay28 (F := Ideal) lanes (k0_pay26 q) k0_pay27 k = k0_pay16 lanes q k := rfl
/-- The sixth tile's scores. -/
theorem same32 (q : Vec Ideal S1x512x128 .f32) (k : Vec Ideal S1x2304x128 .bf16) : k0_pay32 (F := Ideal) lanes q k = k0_pay16 lanes q k := rfl
/-- The seventh tile's scores. -/
theorem same36 (q : Vec Ideal S1x512x128 .f32) (k : Vec Ideal S1x2304x128 .bf16) :
    k0_pay36 (F := Ideal) (k0_pay35 lanes q) k = k0_pay16 lanes q k := rfl
/-- The eighth tile's scores. -/
theorem same39 (q : Vec Ideal S1x512x128 .f32) (k : Vec Ideal S1x2304x128 .bf16) : k0_pay39 (F := Ideal) lanes q k = k0_pay16 lanes q k := rfl

variable (l : FVec Ideal S1x1 .f32) (g : FVec Ideal S128x1 .f32) (s : Vec Ideal S2304x1024 .f32) (v : Vec Ideal S1x144x2304 .bf16)

/-- The second tile's output. -/
theorem same23 : k0_pay23 (F := Ideal) g (k0_pay22 l s v) = k0_pay20 l g s v := rfl
/-- The third tile's output. -/
theorem same25 : k0_pay25 (F := Ideal) l g s v = k0_pay20 l g s v := rfl
/-- The fourth tile's output. -/
theorem same31 : k0_pay31 (F := Ideal) g (k0_pay29 l s v) (k0_pay30 l s v) = k0_pay20 l g s v := rfl
/-- The fifth tile's output. -/
theorem same34 : k0_pay34 (F := Ideal) l g (k0_pay33 s) v = k0_pay20 l g s v := rfl
/-- The sixth tile's output. -/
theorem same38 : k0_pay38 (F := Ideal) (k0_pay37 l g s v) = k0_pay20 l g s v := rfl
/-- The eighth tile's output. -/
theorem same1 : k0_pay1 (F := Ideal) g (k0_pay45 l s v) (k0_pay46 l s v) = k0_pay20 l g s v := rfl
/-- The seventh tile's output. -/
theorem same44 : k0_pay44 (F := Ideal) l g (k0_pay41 s v) (k0_pay42 s v) (k0_pay43 s v) = k0_pay20 l g s v := rfl

end Cert.Attn.Pay

end
-- ==== Proof.AttnBlock.lean ====
module

public import proofs.«01_k».proof.Proof.AttnPay
public import Idealize.ShloMosaic.Lib.Pipeline.ValueKit

@[expose] public section

set_option maxRecDepth 16384

/-! What one grid point of the attention leaves in its output block. -/

noncomputable section

namespace Cert.Attn.Pay

open Idealize.ShloMosaic
open Cert.KernelIdeal Cert.KernelIdeal.Gen

/-- A key of a head of the block: the layer's tokens, then the context's. -/
def keyAt (x : Vec Ideal S1x2048x256 .bf16) (z : Vec Ideal S1x256x256 .bf16) (h : Fin 2) (k : Fin 2304) (e : Fin 128) : EReal :=
  if hk : (k : ℕ) < 2048 then x (ix3 0 ⟨k, hk⟩ ⟨h * 128 + e, by omega⟩) else z (ix3 0 ⟨k - 2048, by omega⟩ ⟨h * 128 + e, by omega⟩)

/-- A value of a head of the block, the row of ones below. -/
def valAt (x : Vec Ideal S1x2048x256 .bf16) (z : Vec Ideal S1x256x256 .bf16) (h : Fin 2) (e : Fin 144) (k : Fin 2304) : EReal :=
  if he : (e : ℕ) < 128 then keyAt x z h k ⟨e, he⟩ else if (e : ℕ) = 128 then 1 else 0

/-- The block's contents at a row, a head and a lane. -/
def rowAt (x0 x1 x2 x3 : Vec Ideal S1x64 .f32) (x4 : Vec Ideal S128x1 .f32) (x5 : Vec Ideal S1x2048x256 .f32) (x6 x7 : Vec Ideal S1x2048x256 .bf16)
    (x8 x9 : Vec Ideal S1x256x256 .bf16) (r : Fin 2048) (h : Fin 2) (e : Fin 128) : EReal :=
  normed (fun e => mixed
      (lambda (fun x => x0 (ix2 0 x)) (fun x => x1 (ix2 0 x)) (fun x => x2 (ix2 0 x)) (fun x => x3 (ix2 0 x)))
      (lowScore (Named.named (F := Ideal) (φ := .f32) κ "qk_scale" 0x3E38AA3B#32) (fun x => x5 (ix3 0 r ⟨h * 128 + x, by omega⟩)) (keyAt x6 x8 h))
      (highScore (Named.named (F := Ideal) (φ := .f32) κ "qk_scale" 0x3E38AA3B#32) (fun x => x5 (ix3 0 r ⟨h * 128 + x, by omega⟩)) (keyAt x6 x8 h))
      (fun a => keyAt x7 x9 h a e) (fun _ => 1)) e * (x4 (ix2 e 0) * Ideal.ofBits .f32 0x3F24FD5C#32)

variable (x0 x1 x2 x3 : Vec Ideal S1x64 .f32) (x4 : Vec Ideal S128x1 .f32) (x5 : Vec Ideal S1x2048x256 .f32) (x6 x7 : Vec Ideal S1x2048x256 .bf16)
  (x8 x9 : Vec Ideal S1x256x256 .bf16)

/-- One tile of one head, from what its loads read. -/
theorem core (y : S1x2048x256.Idx) (w : S1x512x128.Idx) (h : Fin 2) (o : ℕ) (q : Vec Ideal S1x512x128 .f32)
    (k : Vec Ideal S1x2304x128 .bf16) (v : Vec Ideal S1x144x2304 .bf16) (h1 : (y 1 : ℕ) = o + w 1) (h2 : (y 2 : ℕ) = h * 128 + w 2) (ho : o + 512 ≤ 2048)
    (hq : ∀ (r : Fin 512) (j : Fin 128), q (ix3 0 r j) = x5 (ix3 0 ⟨o + r, by omega⟩ ⟨h * 128 + j, by omega⟩))
    (hk : ∀ a j, k (ix3 0 a j) = keyAt x6 x8 h a j) (hv : ∀ j a, v (ix3 0 j a) = valAt x7 x9 h j a) :
    k0_pay20 (F := Ideal) (k0_pay2 x0 x1 x2 x3) (k0_pay3 x4) (k0_pay16 lanes q k) v w
      = rowAt x0 x1 x2 x3 x4 x5 x6 x7 x8 x9 (y 1) ⟨(y 2 : ℕ) / 128, by have : (y 2 : ℕ) < 256 := (y 2).isLt; omega⟩ ⟨(y 2 : ℕ) % 128, by omega⟩ := by
  have hone (a : Fin 2304) : v (ix3 0 128 a) = 1 := by rw [hv]; rfl
  have hval (e : Fin 128) (a : Fin 2304) : v (ix3 0 ⟨e, by omega⟩ a) = keyAt x7 x9 h a e := by
    rw [hv]; exact dif_pos e.isLt
  have hw : (w 1 : ℕ) < 512 := (w 1).isLt
  idx_vars w
  change (w1 : ℕ) < 512 at hw
  idx_vars y
  change (y2 : ℕ) = h * 128 + w2 at h2
  obtain rfl : w0 = 0 := Subsingleton.elim _ _
  have hr : y1 = ⟨o + w1, by omega⟩ := Fin.ext h1
  rw [hr, tile x0 x1 x2 x3 x4 q k v hone w1 w2, show (⟨(y2 : ℕ) / 128, by omega⟩ : Fin 2) = h from Fin.ext (by show (y2 : ℕ) / 128 = h; omega),
    show (⟨(y2 : ℕ) % 128, by omega⟩ : Fin 128) = w2 from Fin.ext (by show (y2 : ℕ) % 128 = w2; omega)]
  simp only [hval, hq, hk]
  rfl

/-- A key of the layer's tokens, by its coordinates. -/
theorem keyAt_of_lt (x : Vec Ideal S1x2048x256 .bf16) (z : Vec Ideal S1x256x256 .bf16) {h : Fin 2} {k : Fin 2304} {e : Fin 128} (a : Fin 2048)
    (b : Fin 256) (ha : (k : ℕ) = a) (hb : (b : ℕ) = h * 128 + e) : x (ix3 0 a b) = keyAt x z h k e := by
  have hk : (k : ℕ) < 2048 := by omega
  rw [show a = ⟨k, hk⟩ from Fin.ext ha.symm, show b = ⟨h * 128 + e, by omega⟩ from Fin.ext hb]
  unfold keyAt
  rw [dif_pos hk]

/-- A key of the context, by its coordinates. -/
theorem keyAt_of_ge (x : Vec Ideal S1x2048x256 .bf16) (z : Vec Ideal S1x256x256 .bf16) {h : Fin 2} {k : Fin 2304} {e : Fin 128} (a : Fin 256)
    (b : Fin 256) (ha : (k : ℕ) = 2048 + a) (hb : (b : ℕ) = h * 128 + e) : z (ix3 0 a b) = keyAt x z h k e := by
  rw [show a = ⟨k - 2048, by omega⟩ from Fin.ext (show (a : ℕ) = k - 2048 by omega), show b = ⟨h * 128 + e, by omega⟩ from Fin.ext hb]
  unfold keyAt
  rw [dif_neg (by omega)]

/-- A value of the layer's tokens, by its coordinates. -/
theorem valAt_of_lt (x : Vec Ideal S1x2048x256 .bf16) (z : Vec Ideal S1x256x256 .bf16) {h : Fin 2} {k : Fin 2304} {e : Fin 144} (a : Fin 2048)
    (b : Fin 256) (ha : (k : ℕ) = a) (hb : (b : ℕ) = h * 128 + e) (he : (e : ℕ) < 128) : x (ix3 0 a b) = valAt x z h e k := by
  unfold valAt
  rw [dif_pos he]
  exact keyAt_of_lt x z a b ha hb

/-- A value of the context, by its coordinates. -/
theorem valAt_of_ge (x : Vec Ideal S1x2048x256 .bf16) (z : Vec Ideal S1x256x256 .bf16) {h : Fin 2} {k : Fin 2304} {e : Fin 144} (a : Fin 256)
    (b : Fin 256) (ha : (k : ℕ) = 2048 + a) (hb : (b : ℕ) = h * 128 + e) (he : (e : ℕ) < 128) : z (ix3 0 a b) = valAt x z h e k := by
  unfold valAt
  rw [dif_pos he]
  exact keyAt_of_ge x z a b ha hb

/-- The row of ones and the zero rows below it. -/
theorem valAt_ones (x : Vec Ideal S1x2048x256 .bf16) (z : Vec Ideal S1x256x256 .bf16) {h : Fin 2} {k : Fin 2304} {e : Fin 144} (n : Fin 16)
    (he : (e : ℕ) = 128 + n) : Scalar.select (IntOp.cmpi CmpIPredicate.eq (BitVec.ofNat 32 n) 0#32) (1 : EReal) 0 = valAt x z h e k := by
  have hc : ∀ n : Fin 16, IntOp.cmpi CmpIPredicate.eq (BitVec.ofNat 32 n) 0#32 = if (n : ℕ) = 0 then 1#1 else 0#1 := by decide
  rw [hc, valAt, dif_neg (by omega)]
  by_cases hn : (n : ℕ) = 0
  · rw [if_pos hn, if_pos (by omega)]; rfl
  · rw [if_neg hn, if_neg (by omega)]; rfl

/-- A buffer read back through a box, where the contents of the whole buffer are known. -/
theorem read_back {κ : Kind} {sp : Space} {s : Shape} {e : EltTy} (v : View sig κ sp s e) (L : List (View.Piece (Elt Ideal) s e))
    (G : s.Idx → Elt Ideal e) (hG : ∀ y, View.canon L y = G y) (B : LoadRect s) : v.readCov L B = fun j => G (B.idx j) := by
  rw [View.readCov_eq_canon']
  exact funext fun j => hG _

/-- What one grid point leaves in its output block, at an index. -/
theorem block (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S128x1 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2048x256 .bf16) (harg12 : arg12.IsWhole) (arg13 : Memref sig .tc .vmem S2x2304x128 .bf16) (harg13 : arg13.IsWhole) (arg14 : Memref sig .tc .vmem S2x144x2304 .bf16) (harg14 : arg14.IsWhole) (arg15 : Memref sig .tc .vmem S2304x1024 .f32) (harg15 : arg15.IsWhole) (arg16 : Memref sig .tc .vmem S2304x1024 .f32) (harg16 : arg16.IsWhole)
    (x0 : Vec Ideal S1x64 .f32) (x1 : Vec Ideal S1x64 .f32) (x2 : Vec Ideal S1x64 .f32) (x3 : Vec Ideal S1x64 .f32) (x4 : Vec Ideal S128x1 .f32) (x5 : Vec Ideal S1x2048x256 .f32) (x6 : Vec Ideal S1x2048x256 .bf16) (x7 : Vec Ideal S1x2048x256 .bf16) (x8 : Vec Ideal S1x256x256 .bf16) (x9 : Vec Ideal S1x256x256 .bf16) (y : S1x2048x256.Idx) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y
      = rowAt x0 x1 x2 x3 x4 x5 x6 x7 x8 x9 (y 1) ⟨(y 2 : ℕ) / 128, by have : (y 2 : ℕ) < 256 := (y 2).isLt; omega⟩ ⟨(y 2 : ℕ) % 128, by omega⟩ := by
  frame_out
  rw [read_back arg13.view _ (fun y => keyAt x6 x8 (y 0) (y 1) (y 2)) ?_]
  rw [read_back arg13.view _ (fun y => keyAt x6 x8 (y 0) (y 1) (y 2)) ?_]
  rw [read_back arg14.view _ (fun y => valAt x7 x9 (y 0) (y 1) (y 2)) ?_]
  rw [read_back arg14.view _ (fun y => valAt x7 x9 (y 0) (y 1) (y 2)) ?_]
  · clear c i harg2 harg3 harg4 harg5 harg6 harg7 harg8 harg9 harg10 harg11 harg12 harg13 harg14 harg15 harg16
    canon_tiles x h
    case piece0 =>
      rw [same39, same1]
      refine core x0 x1 x2 x3 x4 x5 x6 x7 x8 x9 y x 1 1536 _ _ _ (by omega) (by show (y 2 : ℕ) = 1 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece1 =>
      rw [same36, same44]
      refine core x0 x1 x2 x3 x4 x5 x6 x7 x8 x9 y x 0 1536 _ _ _ (by omega) (by show (y 2 : ℕ) = 0 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece2 =>
      rw [same32, same38]
      refine core x0 x1 x2 x3 x4 x5 x6 x7 x8 x9 y x 1 1024 _ _ _ (by omega) (by show (y 2 : ℕ) = 1 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece3 =>
      rw [same28, same34]
      refine core x0 x1 x2 x3 x4 x5 x6 x7 x8 x9 y x 0 1024 _ _ _ (by omega) (by show (y 2 : ℕ) = 0 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece4 =>
      rw [same24, same31]
      refine core x0 x1 x2 x3 x4 x5 x6 x7 x8 x9 y x 1 512 _ _ _ (by omega) (by show (y 2 : ℕ) = 1 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece5 =>
      rw [same21, same25]
      refine core x0 x1 x2 x3 x4 x5 x6 x7 x8 x9 y x 0 512 _ _ _ (by omega) (by show (y 2 : ℕ) = 0 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece6 =>
      rw [same19, same23]
      refine core x0 x1 x2 x3 x4 x5 x6 x7 x8 x9 y x 1 0 _ _ _ (by omega) (by show (y 2 : ℕ) = 1 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
    case piece7 =>
      refine core x0 x1 x2 x3 x4 x5 x6 x7 x8 x9 y x 0 0 _ _ _ (by omega) (by show (y 2 : ℕ) = 0 * 128 + x 2; omega) (by omega)
        (fun r j => by pointwise) (fun r j => congr (congr (congrArg (keyAt x6 x8) ?_) ?_) ?_) fun r j => congr (congr (congrArg (valAt x7 x9) ?_) ?_) ?_
      all_goals (refine Fin.ext ?_; rw [Rect.idx_unit_val]; simp)
  all_goals
    intro y
    clear * -
    first
      | canon_tiles x h using (View.cover_of_tiledBy (Val := Elt Ideal) (s := S2x144x2304) (e := .bf16) _ ![1, 16, 256] (by sl_kernel_rfl) y)
        case piece0 => open_payloads; pointwise; exact valAt_ones _ _ (x 1) h1
        case piece3 => open_payloads; pointwise; exact valAt_ones _ _ (x 1) h1
        case piece1 => open_payloads; pointwise; exact valAt_of_ge _ _ _ _ h2 (by show 128 + (x 1 : ℕ) = (y 0 : ℕ) * 128 + (y 1 : ℕ); omega) (by omega)
        case piece4 => open_payloads; pointwise; exact valAt_of_ge _ _ _ _ h2 (by show (x 1 : ℕ) = (y 0 : ℕ) * 128 + (y 1 : ℕ); omega) (by omega)
        case piece2 => open_payloads; pointwise; exact valAt_of_lt _ _ _ _ h2 (by show 128 + (x 1 : ℕ) = (y 0 : ℕ) * 128 + (y 1 : ℕ); omega) (by omega)
        case piece5 => open_payloads; pointwise; exact valAt_of_lt _ _ _ _ h2 (by show (x 1 : ℕ) = (y 0 : ℕ) * 128 + (y 1 : ℕ); omega) (by omega)
      | canon_tiles x h using (View.cover_of_tiledBy (Val := Elt Ideal) (s := S2x2304x128) (e := .bf16) _ ![1, 256, 128] (by sl_kernel_rfl) y)
        case piece0 => open_payloads; pointwise; exact keyAt_of_ge _ _ _ _ h1 (by show 128 + (x 2 : ℕ) = (y 0 : ℕ) * 128 + (y 2 : ℕ); omega)
        case piece2 => open_payloads; pointwise; exact keyAt_of_ge _ _ _ _ h1 (by show (x 2 : ℕ) = (y 0 : ℕ) * 128 + (y 2 : ℕ); omega)
        case piece1 => open_payloads; pointwise; exact keyAt_of_lt _ _ _ _ h1 (by show 128 + (x 2 : ℕ) = (y 0 : ℕ) * 128 + (y 2 : ℕ); omega)
        case piece3 => open_payloads; pointwise; exact keyAt_of_lt _ _ _ _ h1 (by show (x 2 : ℕ) = (y 0 : ℕ) * 128 + (y 2 : ℕ); omega)

end Cert.Attn.Pay

end
-- ==== Proof.AttnRef.lean ====
module

public import proofs.«01_k».proof.Proof.AttnSpec
public import proofs.«01_k».proof.Proof.Gen.ReferenceIdeal.Read

@[expose] public section

set_option maxRecDepth 16384

/-! The reference's differential attention, read at an index in the terms of `AttnSpec`. -/

noncomputable section

namespace Cert.Attn.Ref

open Idealize.ShloMosaic
open Cert.ReferenceIdeal Cert.ReferenceIdeal.Read

variable (x0 x1 x2 : (⟨S16x2048x1024, .f32⟩ : BufTy).Contents (Elt Ideal)) (x3 x4 : (⟨S16x256x1024, .f32⟩ : BufTy).Contents (Elt Ideal))
  (x5 x6 x7 x8 : (⟨S1x64, .f32⟩ : BufTy).Contents (Elt Ideal)) (x9 : (⟨S1x128, .f32⟩ : BufTy).Contents (Elt Ideal))

/-- An array of the layer's tokens followed by the context's. -/
def joined {n : ℕ} (x : S16x2048x1024.Idx → EReal) (y : S16x256x1024.Idx → EReal) (b : Fin 16) (lane : Fin n → Fin 1024)
    (k : Fin 2304) (e : Fin n) : EReal :=
  if h : (k : ℕ) < 2048 then x (ix3 b ⟨k, h⟩ (lane e)) else y (ix3 b ⟨k - 2048, by omega⟩ (lane e))

/-- The weight of the second map. -/
theorem lambda_eq (i : S_.Idx) : val_main_v17 (F := Ideal) x5 x6 x7 x8 i
    = lambda (fun x => x5 (ix2 0 x)) (fun x => x6 (ix2 0 x)) (fun x => x7 (ix2 0 x)) (fun x => x8 (ix2 0 x)) := by
  pointwise [val_main_v17, val_main_v16, val_main_v15, val_main_v14, val_main_v13, val_main_v12, val_main_v11, val_main_v10, val_main_v0, val_main_v1, val_main_v2, val_main_v3, val_main_cst, val_main_cst_0, val_main_cst_1]
  rfl

/-- The scores. -/
theorem score_eq (b : Fin 16) (h : Fin 8) (t : Fin 2) (r : Fin 2048) :
    (fun k => val_main_v22 (F := Ideal) x0 x1 x3 (ix5 b h t r k))
      = score (fun x => x0 (ix3 b r ⟨h * 128 + t * 64 + x, by omega⟩))
          (joined x1 x3 b fun x => ⟨h * 128 + t * 64 + x, by omega⟩) := by
  funext k
  pointwise [val_main_v22, val_main_v21, val_main_v20, val_main_v18, val_main_v5, val_main_v6, val_main_v8, val_main_cst_2]
  rfl

/-- A maximum over the last of five axes. -/
theorem reduce_max {n0 n1 n2 n3 n4 : ℕ} {u : Shape} (h : (⟨5, ![n0, n1, n2, n3, n4]⟩ : Shape).ReducesTo [4] ⟨4, ![n0, n1, n2, n3]⟩)
    (hu : 0 < u.numel) (y : (⟨5, ![n0, n1, n2, n3, n4]⟩ : Shape).Idx → EReal) (z : u.Idx → EReal)
    (a : Fin n0) (b : Fin n1) (c : Fin n2) (d : Fin n3) :
    Host.reduce (FloatOps.maximumf (F := Ideal) (φ := .f32)) y z h hu (ix4 a b c d)
      = Finset.univ.fold max (z (Shape.Idx.first hu)) fun k => y (ix5 a b c d k) := by
  simp only [pointwise]

/-- The largest score of a row. -/
theorem peak_eq (b : Fin 16) (h : Fin 8) (t : Fin 2) (r : Fin 2048) :
    val_main_v23 (F := Ideal) x0 x1 x3 (ix4 b h t r) = peak (fun k => val_main_v22 (F := Ideal) x0 x1 x3 (ix5 b h t r k)) := by
  unfold val_main_v23
  generalize val_main_v22 (F := Ideal) x0 x1 x3 = y
  exact reduce_max _ _ y _ b h t r

/-- The softmax numerators, from the scores. -/
theorem numer_eq (b : Fin 16) (h : Fin 8) (t : Fin 2) (r : Fin 2048) (k : Fin 2304) :
    val_main_v29 (F := Ideal) x0 x1 x3 (ix5 b h t r k) = numer (fun k => val_main_v22 (F := Ideal) x0 x1 x3 (ix5 b h t r k)) k := by
  have hi : idx_main_v26 (idx_main_v27 (ix5 b h t r k)) = ix4 b h t r := by
    funext a
    match a with
    | ⟨0, _⟩ => rfl
    | ⟨1, _⟩ => rfl
    | ⟨2, _⟩ => rfl
    | ⟨3, _⟩ => rfl
  unfold val_main_v29 val_main_v28 numer
  rw [← peak_eq]
  have h27 : val_main_v27 (F := Ideal) x0 x1 x3 (ix5 b h t r k)
      = max (Ideal.ofBits .f32 0xFF800000#32) (val_main_v23 (F := Ideal) x0 x1 x3 (ix4 b h t r)) := by
    rw [val_main_v27_apply, val_main_v26_apply, hi, val_main_v25_apply, val_main_v24_apply]
    rfl
  rw [← h27]
  rfl

/-- The softmax, from its numerators. -/
theorem soft_eq (b : Fin 16) (h : Fin 8) (t : Fin 2) (r : Fin 2048) (k : Fin 2304) :
    val_main_v33 (F := Ideal) x0 x1 x3 (ix5 b h t r k) = soft (fun k => val_main_v22 (F := Ideal) x0 x1 x3 (ix5 b h t r k)) k := by
  unfold soft
  simp only [← numer_eq]
  unfold val_main_v33 val_main_v32 val_main_v31 val_main_v30
  generalize val_main_v29 (F := Ideal) x0 x1 x3 = y
  pointwise [val_main_cst_5]

/-- The difference of the two maps. -/
theorem map_eq (b : Fin 16) (h : Fin 8) (r : Fin 2048) (k : Fin 2304) : val_main_v40 (F := Ideal) x0 x1 x3 x5 x6 x7 x8 (ix4 b h r k)
    = val_main_v33 (F := Ideal) x0 x1 x3 (ix5 b h 0 r k) - val_main_v17 (F := Ideal) x5 x6 x7 x8 ix0 * val_main_v33 (F := Ideal) x0 x1 x3 (ix5 b h 1 r k) := by
  have low : idx_main_v34 (idx_main_v35 (ix4 b h r k)) = ix5 b h 0 r k := by
    funext a
    match a with
    | ⟨0, _⟩ => exact Fin.ext (show ((((b : ℕ) * 8 + h) * 2048 + r) * 2304 + k) / 37748736 = b by omega)
    | ⟨1, _⟩ => exact Fin.ext (show (((((b : ℕ) * 8 + h) * 2048 + r) * 2304 + k) / 4718592) % 8 = h by omega)
    | ⟨2, _⟩ => rfl
    | ⟨3, _⟩ => exact Fin.ext (show (((((b : ℕ) * 8 + h) * 2048 + r) * 2304 + k) / 2304) % 2048 = r by omega)
    | ⟨4, _⟩ => exact Fin.ext (show ((((b : ℕ) * 8 + h) * 2048 + r) * 2304 + k) % 2304 = k by omega)
  have high : idx_main_v36 (idx_main_v37 (ix4 b h r k)) = ix5 b h 1 r k := by
    funext a
    match a with
    | ⟨0, _⟩ => exact Fin.ext (show ((((b : ℕ) * 8 + h) * 2048 + r) * 2304 + k) / 37748736 = b by omega)
    | ⟨1, _⟩ => exact Fin.ext (show (((((b : ℕ) * 8 + h) * 2048 + r) * 2304 + k) / 4718592) % 8 = h by omega)
    | ⟨2, _⟩ => rfl
    | ⟨3, _⟩ => exact Fin.ext (show (((((b : ℕ) * 8 + h) * 2048 + r) * 2304 + k) / 2304) % 2048 = r by omega)
    | ⟨4, _⟩ => exact Fin.ext (show ((((b : ℕ) * 8 + h) * 2048 + r) * 2304 + k) % 2304 = k by omega)
  rw [val_main_v40_apply, val_main_v39_apply, val_main_v35_apply, val_main_v34_apply, val_main_v37_apply, val_main_v36_apply, val_main_v38_apply,
    low, high, Subsingleton.elim (idx_main_v38 (ix4 b h r k)) ix0]
  rfl

/-- The values. -/
theorem values_eq (b : Fin 16) (h : Fin 8) (k : Fin 2304) (e : Fin 128) :
    val_main_v19 (F := Ideal) x2 x4 (ix4 b k h e) = joined x2 x4 b (fun e : Fin 128 => ⟨h * 128 + e, by omega⟩) k e := by
  pointwise [val_main_v19, val_main_v7, val_main_v9]
  rfl

/-- The attention of one head, before its normalization. -/
theorem head_eq (b : Fin 16) (r : Fin 2048) (h : Fin 8) (e : Fin 128) :
    val_main_v42 (F := Ideal) x0 x1 x2 x3 x4 x5 x6 x7 x8 (ix4 b r h e)
      = differ (lambda (fun x => x5 (ix2 0 x)) (fun x => x6 (ix2 0 x)) (fun x => x7 (ix2 0 x)) (fun x => x8 (ix2 0 x)))
          (score (fun x => x0 (ix3 b r ⟨h * 128 + (0 : Fin 2) * 64 + x, by omega⟩))
            (joined x1 x3 b fun x => ⟨h * 128 + (0 : Fin 2) * 64 + x, by omega⟩))
          (score (fun x => x0 (ix3 b r ⟨h * 128 + (1 : Fin 2) * 64 + x, by omega⟩))
            (joined x1 x3 b fun x => ⟨h * 128 + (1 : Fin 2) * 64 + x, by omega⟩))
          (fun k => joined x2 x4 b (fun e : Fin 128 => ⟨h * 128 + e, by omega⟩) k e) := by
  have hl (k : Fin 2304) : lidx_main_v41 (idx_main_v42 (ix4 b r h e)) k = ix4 b k h e := by
    funext a
    match a with
    | ⟨0, _⟩ => rfl
    | ⟨1, _⟩ => rfl
    | ⟨2, _⟩ => rfl
    | ⟨3, _⟩ => rfl
  have hr (k : Fin 2304) : ridx_main_v41 (idx_main_v42 (ix4 b r h e)) k = ix4 b h r k := by
    funext a
    match a with
    | ⟨0, _⟩ => rfl
    | ⟨1, _⟩ => rfl
    | ⟨2, _⟩ => rfl
    | ⟨3, _⟩ => rfl
  rw [val_main_v42_apply, val_main_v41_apply]
  unfold differ
  refine Finset.sum_congr (M := EReal) rfl fun k _ => ?_
  rw [hl, hr, values_eq, map_eq, soft_eq, soft_eq, lambda_eq, score_eq, score_eq]

/-- The result, from the heads. -/
theorem out_eq (b : Fin 16) (r : Fin 2048) (h : Fin 8) (e : Fin 128) :
    val_main_v59 (F := Ideal) x0 x1 x2 x3 x4 x5 x6 x7 x8 x9 (ix3 b r ⟨h * 128 + e, by omega⟩)
      = normed (fun e => val_main_v42 (F := Ideal) x0 x1 x2 x3 x4 x5 x6 x7 x8 (ix4 b r h e)) e
        * x9 (ix2 0 e) * Ideal.ofBits .f32 0x3F24FD5C#32 := by
  unfold val_main_v59 val_main_v58 val_main_v57 val_main_v56 val_main_v55 val_main_v54 val_main_v53 val_main_v52 val_main_v51 val_main_v50 val_main_v49 val_main_v48 val_main_v47 val_main_v46 val_main_v45 val_main_v44 val_main_v43
  generalize val_main_v42 (F := Ideal) x0 x1 x2 x3 x4 x5 x6 x7 x8 = y
  pointwise [val_main_v4, val_main_cst_6, val_main_cst_7, val_main_cst_8, val_main_cst_9]
  rfl

end Cert.Attn.Ref

end
-- ==== Proof.AttnMath.lean ====
module

public import proofs.«01_k».proof.Proof.AttnSpec
public import Mathlib.Analysis.SpecialFunctions.Pow.Real

@[expose] public section

set_option maxRecDepth 16384

/-! At finite inputs the kernel's row of the differential attention is the reference's. -/

noncomputable section

namespace Cert.Attn

open Idealize.ShloMosaic

/-- The pattern of one eighth. -/
theorem eighth : Ideal.ofBits .f32 0x3E000000#32 = (((1 : ℝ) / 8 : ℝ) : EReal) := by
  simp [Ideal.ofBits, Ideal.ieee, -EReal.coe_mul]; norm_num

/-- The pattern a maximum starts from is the least extended real. -/
theorem least : Ideal.ofBits .f32 0xFF800000#32 = (⊥ : EReal) := by
  simp [Ideal.ofBits, Ideal.ieee]

/-- The constant part of the second map's weight is a real. -/
theorem start_real : ∃ r : ℝ, Ideal.ofBits .f32 0x3EB60549#32 = (r : EReal) := by
  simp only [Ideal.ofBits, Ideal.ieee]
  rw [if_neg (by decide), if_neg (by decide)]
  exact ⟨_, rfl⟩

/-- A sum of reals, read as an extended real. -/
theorem coe_total {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of the second map is a real when the learned vectors are. -/
theorem lambda_real (a b c d : Fin 64 → ℝ) :
    ∃ r : ℝ, lambda (fun x => (a x : EReal)) (fun x => (b x : EReal)) (fun x => (c x : EReal)) (fun x => (d x : EReal)) = (r : EReal) := by
  obtain ⟨t, ht⟩ := start_real
  refine ⟨Real.exp (∑ x, a x * b x) - Real.exp (∑ x, c x * d x) + t, ?_⟩
  unfold lambda
  rw [ht]
  simp only [← EReal.coe_mul, ← coe_total, Ideal.exp_coe, ← EReal.coe_sub, ← EReal.coe_add]

/-- The greatest of real scores, scaled by a positive real, is the scaled score of one key that does not depend on the scale. -/
theorem peak_real (s : Fin 2304 → ℝ) : ∃ M : ℝ, ∀ z : ℝ, 0 < z → peak (fun k => ((z * s k : ℝ) : EReal)) = ((z * M : ℝ) : EReal) := by
  obtain ⟨k0, h0⟩ := Finite.exists_max s
  refine ⟨s k0, fun z hz => ?_⟩
  unfold peak
  rw [least]
  refine le_antisymm ?_ ?_
  · rw [Finset.fold_max_le]
    exact ⟨bot_le, fun k _ => EReal.coe_le_coe_iff.mpr (mul_le_mul_of_nonneg_left (h0 k) hz.le)⟩
  · rw [Finset.le_fold_max]
    exact Or.inr ⟨k0, Finset.mem_univ _, le_rfl⟩

/-- The kernel's base-two numerators of scores scaled by `1 / log 2` are the reference's numerators, and they are positive reals. -/
theorem weight_numer (s : Fin 2304 → ℝ) : ∃ p : Fin 2304 → ℝ, (∀ k, 0 < p k) ∧
    weight (fun k => (((Real.log 2)⁻¹ * s k : ℝ) : EReal)) = (fun k => (p k : EReal)) ∧ numer (fun k => (s k : EReal)) = (fun k => (p k : EReal)) := by
  obtain ⟨M, hM⟩ := peak_real s
  have hl : 0 < Real.log 2 := Real.log_pos (by norm_num)
  refine ⟨fun k => Real.exp (s k - M), fun k => Real.exp_pos _, ?_, ?_⟩
  · funext k
    unfold weight
    rw [hM _ (inv_pos.mpr hl), ← EReal.coe_sub, Ideal.exp2_coe]
    refine congrArg _ ?_
    show (2 : ℝ) ^ ((Real.log 2)⁻¹ * s k - (Real.log 2)⁻¹ * M) = Real.exp (s k - M)
    rw [Real.rpow_def_of_pos (by norm_num)]
    refine congrArg _ ?_
    field_simp
  · funext k
    unfold numer
    have h1 := hM 1 one_pos
    simp only [one_mul] at h1
    rw [h1, least, max_eq_right bot_le, ← EReal.coe_sub, Ideal.exp_coe]

/-- Dividing a real by a nonzero real. -/
theorem div_real (x y : ℝ) (h : y ≠ 0) : Ideal.div (x : EReal) (y : EReal) = ((x / y : ℝ) : EReal) := by
  rw [Ideal.div_coe h, ← EReal.coe_mul, mul_one_div]

/-- The kernel's row of real values is the reference's: the division by the row sums moves inside the sum over the keys. -/
theorem mixed_differ (l : ℝ) (s0 s1 v : Fin 2304 → ℝ) :
    mixed (l : EReal) (fun k => (((Real.log 2)⁻¹ * s0 k : ℝ) : EReal)) (fun k => (((Real.log 2)⁻¹ * s1 k : ℝ) : EReal))
        (fun k => (v k : EReal)) (fun _ => 1)
      = differ (l : EReal) (fun k => (s0 k : EReal)) (fun k => (s1 k : EReal)) (fun k => (v k : EReal)) := by
  obtain ⟨p, hp, hp1, hp2⟩ := weight_numer s0
  obtain ⟨r, hr, hr1, hr2⟩ := weight_numer s1
  have hP : (∑ k, p k) ≠ 0 := (Finset.sum_pos (fun k _ => hp k) ⟨0, Finset.mem_univ _⟩).ne'
  have hR : (∑ k, r k) ≠ 0 := (Finset.sum_pos (fun k _ => hr k) ⟨0, Finset.mem_univ _⟩).ne'
  unfold mixed differ soft
  rw [hp1, hp2, hr1, hr2]
  simp only [one_mul, ← EReal.coe_mul, ← coe_total]
  rw [div_real _ _ hP, div_real _ _ hR]
  simp only [div_real _ _ hP, div_real _ _ hR, ← EReal.coe_mul, ← coe_total, ← EReal.coe_sub]
  refine congrArg _ ?_
  rw [Finset.sum_div, Finset.sum_mul, ← Finset.sum_sub_distrib]
  refine Finset.sum_congr rfl fun k _ => ?_
  field_simp

/-- The kernel's scale: one eighth over `log 2`. -/
def scale : ℝ := (1 / 8) * (Real.log 2)⁻¹

/-- The kernel's score of the first map is the reference's over `log 2`. -/
theorem low_real (q : Fin 128 → ℝ) (K : Fin 2304 → Fin 128 → ℝ) :
    lowScore (scale : EReal) (fun x => (q x : EReal)) (fun k x => (K k x : EReal))
      = fun k => (((Real.log 2)⁻¹ * ((∑ x : Fin 64, q ⟨x, by omega⟩ * K k ⟨x, by omega⟩) * (1 / 8)) : ℝ) : EReal) := by
  funext k
  unfold lowScore
  have h : ∀ x : Fin 128, (K k x : EReal) * (if (x : ℕ) < 64 then (q x : EReal) * (scale : EReal) else 0)
      = ((K k x * (if (x : ℕ) < 64 then q x * scale else 0) : ℝ) : EReal) := fun x => by
    split <;> simp only [EReal.coe_mul, EReal.coe_zero]
  rw [Finset.sum_congr rfl fun x _ => h x, ← coe_total]
  refine congrArg _ ?_
  rw [Fin.sum_univ_two_halves 64 64 rfl, Finset.sum_mul, Finset.mul_sum]
  rw [Finset.sum_eq_zero (s := Finset.univ) (f := fun x : Fin 64 => K k ⟨64 + x, _⟩ * _) fun x _ => by
    rw [if_neg (by show ¬ (64 + (x : ℕ) < 64); omega), mul_zero], add_zero]
  refine Finset.sum_congr rfl fun x _ => ?_
  rw [if_pos (by show (x : ℕ) < 64; omega)]
  unfold scale
  ring

/-- The kernel's score of the second map is the reference's over `log 2`. -/
theorem high_real (q : Fin 128 → ℝ) (K : Fin 2304 → Fin 128 → ℝ) :
    highScore (scale : EReal) (fun x => (q x : EReal)) (fun k x => (K k x : EReal))
      = fun k => (((Real.log 2)⁻¹ * ((∑ x : Fin 64, q ⟨64 + x, by omega⟩ * K k ⟨64 + x, by omega⟩) * (1 / 8)) : ℝ) : EReal) := by
  funext k
  unfold highScore
  have h : ∀ x : Fin 128, (K k x : EReal) * (if 64 ≤ (x : ℕ) then (q x : EReal) * (scale : EReal) else 0)
      = ((K k x * (if 64 ≤ (x : ℕ) then q x * scale else 0) : ℝ) : EReal) := fun x => by
    split <;> simp only [EReal.coe_mul, EReal.coe_zero]
  rw [Finset.sum_congr rfl fun x _ => h x, ← coe_total]
  refine congrArg _ ?_
  rw [Fin.sum_univ_two_halves 64 64 rfl, Finset.sum_mul, Finset.mul_sum]
  rw [Finset.sum_eq_zero (s := Finset.univ) (f := fun x : Fin 64 => K k ⟨x, _⟩ * _) fun x _ => by
    rw [if_neg (by show ¬ (64 ≤ (x : ℕ)); omega), mul_zero], zero_add]
  refine Finset.sum_congr rfl fun x _ => ?_
  rw [if_pos (by show 64 ≤ 64 + (x : ℕ); omega)]
  unfold scale
  ring

/-- The reference's score of real queries and keys. -/
theorem score_real (q : Fin 64 → ℝ) (K : Fin 2304 → Fin 64 → ℝ) :
    score (fun x => (q x : EReal)) (fun k x => (K k x : EReal)) = fun k => (((∑ x, q x * K k x) * (1 / 8) : ℝ) : EReal) := by
  funext k
  unfold score
  rw [eighth]
  simp only [← EReal.coe_mul, ← coe_total]

/-- At finite queries, keys, values and learned vectors the kernel's row before the norm is the reference's. -/
theorem row_eq (l : EReal) (q : Fin 128 → EReal) (K : Fin 2304 → Fin 128 → EReal) (v : Fin 2304 → EReal)
    (hl : ∃ r : ℝ, l = (r : EReal)) (hq : ∀ x, ∃ r : ℝ, q x = (r : EReal)) (hK : ∀ k x, ∃ r : ℝ, K k x = (r : EReal))
    (hv : ∀ k, ∃ r : ℝ, v k = (r : EReal)) :
    mixed l (lowScore (scale : EReal) q K) (highScore (scale : EReal) q K) v (fun _ => 1)
      = differ l (score (fun x => q ⟨x, by omega⟩) (fun k x => K k ⟨x, by omega⟩))
          (score (fun x => q ⟨64 + x, by omega⟩) (fun k x => K k ⟨64 + x, by omega⟩)) v := by
  obtain ⟨l, rfl⟩ := hl
  choose q' hq using hq
  choose K' hK using hK
  choose v' hv using hv
  obtain rfl : q = fun x => (q' x : EReal) := funext hq
  obtain rfl : K = fun k x => (K' k x : EReal) := funext fun k => funext (hK k)
  obtain rfl : v = fun k => (v' k : EReal) := funext hv
  rw [low_real, high_real, mixed_differ, score_real, score_real]

end Cert.Attn

end
-- ==== Proof.AttnFin.lean ====
module

public import proofs.«01_k».proof.Defs

@[expose] public section

set_option maxRecDepth 16384

/-! What the precondition says of each argument: its elements are real numbers. -/

noncomputable section

namespace Cert.Attn

open Idealize.ShloMosaic Idealize.ShloMosaic.TcCoe

/-- An extended real below infinity in absolute value is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have ht : FloatOps.ofBits (F := Ideal) .f32 0x7F800000#32 = (⊤ : EReal) := by
    show Ideal.ofBits .f32 0x7F800000#32 = ⊤
    simp [Ideal.ofBits, Ideal.ieee]
  rw [ht] at h
  induction x with
  | bot => exact absurd h (by show ¬ Ideal.cmp .olt (max ⊥ (-⊥)) ⊤ = 1#1; simp [Ideal.cmp])
  | top => exact absurd h (by show ¬ Ideal.cmp .olt (max ⊤ (-⊤)) ⊤ = 1#1; simp [Ideal.cmp])
  | coe r => exact ⟨r, rfl⟩

/-- The same over an array, as the precondition writes it. -/
theorem real_of_finite {s u : Shape} {dims : Fin u.rank → Fin s.rank} (x : FVec Ideal s .f32) (hb : u.BroadcastsInDim s dims)
    (h : cmpf .olt (Host.absf x) (broadcastInDim s dims hb (constant u .f32 0x7F800000#32)) = fun _ => 1#1) (i : s.Idx) :
    ∃ r : ℝ, x i = (r : EReal) :=
  real_of_lt (x i) (congrFun h i)

/-- What the proof uses of the precondition. -/
structure Finite (x0 x1 x2 : FVec Ideal Cert.Pre_finite.S16x2048x1024 .f32) (x3 x4 : FVec Ideal Cert.Pre_finite.S16x256x1024 .f32)
    (x5 x6 x7 x8 : FVec Ideal Cert.Pre_finite.S1x64 .f32) : Prop where
  a0 : ∀ i, ∃ r : ℝ, x0 i = (r : EReal)
  a1 : ∀ i, ∃ r : ℝ, x1 i = (r : EReal)
  a2 : ∀ i, ∃ r : ℝ, x2 i = (r : EReal)
  a3 : ∀ i, ∃ r : ℝ, x3 i = (r : EReal)
  a4 : ∀ i, ∃ r : ℝ, x4 i = (r : EReal)
  a5 : ∀ i, ∃ r : ℝ, x5 i = (r : EReal)
  a6 : ∀ i, ∃ r : ℝ, x6 i = (r : EReal)
  a7 : ∀ i, ∃ r : ℝ, x7 i = (r : EReal)
  a8 : ∀ i, ∃ r : ℝ, x8 i = (r : EReal)

/-- The precondition makes every element of the activations and of the lambda vectors a real number. -/
theorem finite_of_pre [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) := by
  obtain ⟨h0, h1, h2, h3, h4, h5, h6, h7, h8⟩ := h c
  exact ⟨real_of_finite _ _ h0, real_of_finite _ _ h1, real_of_finite _ _ h2, real_of_finite _ _ h3, real_of_finite _ _ h4,
    real_of_finite _ _ h5, real_of_finite _ _ h6, real_of_finite _ _ h7, real_of_finite _ _ h8⟩

end Cert.Attn

end
-- ==== Proof.AttnVal.lean ====
module

public import proofs.«01_k».proof.Proof.AttnBlock
public import proofs.«01_k».proof.Proof.AttnRef
public import proofs.«01_k».proof.Proof.AttnMath
public import proofs.«01_k».proof.Proof.AttnFin
public import proofs.«01_k».proof.Proof.Gen.KernelIdeal.Value
public import Idealize.ShloMosaic.Lib.Pipeline.ValueKit
public import Idealize.ShloMosaic.Lib.Claim

@[expose] public section

set_option maxRecDepth 16384

/-! The attention's output array as the reference's result over the argument arrays. -/

noncomputable section

namespace Cert.Attn

open Idealize.ShloMosaic
open Cert.ReferenceIdeal Cert.Attn.Ref

/-- The reference's result at a row, a head and a lane is the kernel's row function of the argument arrays. -/
theorem ref_row (x0 x1 x2 : (⟨S16x2048x1024, .f32⟩ : BufTy).Contents (Elt Ideal)) (x3 x4 : (⟨S16x256x1024, .f32⟩ : BufTy).Contents (Elt Ideal))
    (x5 x6 x7 x8 : (⟨S1x64, .f32⟩ : BufTy).Contents (Elt Ideal)) (x9 : (⟨S1x128, .f32⟩ : BufTy).Contents (Elt Ideal))
    (hf : Finite x0 x1 x2 x3 x4 x5 x6 x7 x8) (b : Fin 16) (r : Fin 2048) (h : Fin 8) (e : Fin 128) :
    normed (fun e => mixed
        (lambda (fun x => x5 (ix2 0 x)) (fun x => x6 (ix2 0 x)) (fun x => x7 (ix2 0 x)) (fun x => x8 (ix2 0 x)))
        (lowScore (scale : EReal) (fun x => x0 (ix3 b r ⟨h * 128 + x, by omega⟩)) (joined x1 x3 b fun x : Fin 128 => ⟨h * 128 + x, by omega⟩))
        (highScore (scale : EReal) (fun x => x0 (ix3 b r ⟨h * 128 + x, by omega⟩)) (joined x1 x3 b fun x : Fin 128 => ⟨h * 128 + x, by omega⟩))
        (fun a => joined x2 x4 b (fun x : Fin 128 => ⟨h * 128 + x, by omega⟩) a e) (fun _ => 1)) e * (x9 (ix2 0 e) * Ideal.ofBits .f32 0x3F24FD5C#32)
      = Read.val_main_v59 (F := Ideal) x0 x1 x2 x3 x4 x5 x6 x7 x8 x9 (ix3 b r ⟨h * 128 + e, by omega⟩) := by
  have hj {n : ℕ} (x : S16x2048x1024.Idx → EReal) (y : S16x256x1024.Idx → EReal) (hx : ∀ i, ∃ r : ℝ, x i = (r : EReal))
      (hy : ∀ i, ∃ r : ℝ, y i = (r : EReal)) (lane : Fin n → Fin 1024) (k : Fin 2304) (e : Fin n) : ∃ r : ℝ, joined x y b lane k e = (r : EReal) := by
    unfold joined
    split
    · exact hx _
    · exact hy _
  have hl : ∃ r : ℝ, lambda (fun x => x5 (ix2 0 x)) (fun x => x6 (ix2 0 x)) (fun x => x7 (ix2 0 x)) (fun x => x8 (ix2 0 x)) = (r : EReal) := by
    choose a ha using hf.a5
    choose b hb using hf.a6
    choose c hc using hf.a7
    choose d hd using hf.a8
    simp only [ha, hb, hc, hd]
    exact lambda_real (fun x => a (ix2 0 x)) (fun x => b (ix2 0 x)) (fun x => c (ix2 0 x)) (fun x => d (ix2 0 x))
  rw [out_eq, mul_assoc]
  congr 2
  funext e
  rw [row_eq _ _ _ _ hl (fun x => hf.a0 _) (fun k x => hj x1 x3 hf.a1 hf.a3 _ k x) (fun k => hj x2 x4 hf.a2 hf.a4 _ k e), head_eq]
  have hi (x : Fin 64) : (⟨h * 128 + (0 : Fin 2) * 64 + x, by omega⟩ : Fin 1024) = ⟨h * 128 + (⟨x, by omega⟩ : Fin 128), by omega⟩ :=
    Fin.ext (by show (h : ℕ) * 128 + 0 * 64 + x = h * 128 + x; omega)
  have hi' (x : Fin 64) : (⟨h * 128 + (1 : Fin 2) * 64 + x, by omega⟩ : Fin 1024) = ⟨h * 128 + (⟨64 + x, by omega⟩ : Fin 128), by omega⟩ :=
    Fin.ext (by show (h : ℕ) * 128 + 1 * 64 + x = h * 128 + (64 + x); omega)
  simp only [hi, hi']
  rfl

end Cert.Attn

namespace Cert.KernelIdeal.Value

open Idealize.ShloMosaic Idealize.ShloMosaic.TcCoe Idealize.SL.Sem
open Idealize.ShloMosaic.Pipeline (Dat)
open Cert.KernelIdeal Cert.KernelIdeal.Gen
open Cert.Attn

/-- Where each window's block lies at grid point `t`: batch `t / 4`, head group `t % 4`, the vectors whole. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![(t : ℕ) / 4, 0, (t : ℕ) % 4] ∧ win0_6.index t = ![(t : ℕ) / 4, 0, (t : ℕ) % 4]
    ∧ win0_7.index t = ![(t : ℕ) / 4, 0, (t : ℕ) % 4] ∧ win0_8.index t = ![(t : ℕ) / 4, 0, (t : ℕ) % 4]
    ∧ win0_9.index t = ![(t : ℕ) / 4, 0, (t : ℕ) % 4] ∧ win0_10.index t = ![(t : ℕ) / 4, 0, (t : ℕ) % 4] :=
  (by decide +kernel : ∀ t : Fin grid0.N, _)

/-- The score scale is the named constant's value. -/
theorem named_scale : Named.named (F := Ideal) (φ := .f32) κ "qk_scale" 0x3E38AA3B#32 = (scale : EReal) :=
  IdealRules.named_const.ideal_named_scalar _ _ _ _ rfl

variable (m : (ℓ : Loc nD τ sig) → Buf (Elt Ideal) ℓ) (c : Dev nD)

/-- The lambda vector of window 0. -/
theorem vec0 (t : Fin cfg0.N) : (fun x : Fin 64 => (iblk m c 0 t : Vec Ideal S1x64 .f32) (ix2 0 x)) = fun x => (m ((c : Thread nD τ).loc main_arg5) : Vec Ideal S1x64 .f32) (ix2 0 x) := by
  funext x
  blk_point [iblk, V, idx t]

/-- The lambda vector of window 1. -/
theorem vec1 (t : Fin cfg0.N) : (fun x : Fin 64 => (iblk m c 1 t : Vec Ideal S1x64 .f32) (ix2 0 x)) = fun x => (m ((c : Thread nD τ).loc main_arg6) : Vec Ideal S1x64 .f32) (ix2 0 x) := by
  funext x
  blk_point [iblk, V, idx t]

/-- The lambda vector of window 2. -/
theorem vec2 (t : Fin cfg0.N) : (fun x : Fin 64 => (iblk m c 2 t : Vec Ideal S1x64 .f32) (ix2 0 x)) = fun x => (m ((c : Thread nD τ).loc main_arg7) : Vec Ideal S1x64 .f32) (ix2 0 x) := by
  funext x
  blk_point [iblk, V, idx t]

/-- The lambda vector of window 3. -/
theorem vec3 (t : Fin cfg0.N) : (fun x : Fin 64 => (iblk m c 3 t : Vec Ideal S1x64 .f32) (ix2 0 x)) = fun x => (m ((c : Thread nD τ).loc main_arg8) : Vec Ideal S1x64 .f32) (ix2 0 x) := by
  funext x
  blk_point [iblk, V, idx t]

/-- The keys of a head of the block. -/
theorem keys (t : Fin cfg0.N) (ht : (t : ℕ) < 64) (h : Fin 2) : Cert.Attn.Pay.keyAt (iblk m c 6 t) (iblk m c 8 t) h
    = Cert.Attn.Ref.joined (m ((c : Thread nD τ).loc main_arg1)) (m ((c : Thread nD τ).loc main_arg3)) ⟨(t : ℕ) / 4, by omega⟩
        (fun x : Fin 128 => ⟨((t : ℕ) % 4 * 2 + h) * 128 + x, by omega⟩) := by
  funext k e
  unfold Cert.Attn.Pay.keyAt Cert.Attn.Ref.joined
  refine dite_congr rfl (fun hk => ?_) fun hk => ?_
  · blk_point [iblk, V, idx t]
  · blk_point [iblk, V, idx t]

/-- The values of a head of the block. -/
theorem vals (t : Fin cfg0.N) (ht : (t : ℕ) < 64) (h : Fin 2) : Cert.Attn.Pay.keyAt (iblk m c 7 t) (iblk m c 9 t) h
    = Cert.Attn.Ref.joined (m ((c : Thread nD τ).loc main_arg2)) (m ((c : Thread nD τ).loc main_arg4)) ⟨(t : ℕ) / 4, by omega⟩
        (fun x : Fin 128 => ⟨((t : ℕ) % 4 * 2 + h) * 128 + x, by omega⟩) := by
  funext k e
  unfold Cert.Attn.Pay.keyAt Cert.Attn.Ref.joined
  refine dite_congr rfl (fun hk => ?_) fun hk => ?_
  · blk_point [iblk, V, idx t]
  · blk_point [iblk, V, idx t]

/-- The queries of a head of the block. -/
theorem queries (t : Fin cfg0.N) (ht : (t : ℕ) < 64) (r : Fin 2048) (h : Fin 2) :
    (fun x : Fin 128 => (iblk m c 5 t : Vec Ideal S1x2048x256 .f32) (ix3 0 r ⟨h * 128 + x, by omega⟩))
      = fun x : Fin 128 => (m ((c : Thread nD τ).loc main_arg0) : Vec Ideal S16x2048x1024 .f32) (ix3 ⟨(t : ℕ) / 4, by omega⟩ r ⟨((t : ℕ) % 4 * 2 + h) * 128 + x, by omega⟩) := by
  funext x
  blk_point [iblk, V, idx t]

/-- The gain of a lane. -/
theorem gain (t : Fin cfg0.N) (e : Fin 128) :
    (iblk m c 4 t : Vec Ideal S128x1 .f32) (ix2 e 0) = (m ((c : Thread nD τ).loc main_arg9) : Vec Ideal S1x128 .f32) (ix2 0 e) := by
  blk_point [iblk, V, idx t]

/-- The arrays' finiteness, for the device. -/
abbrev FiniteAt : Prop := Finite (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

/-- A block's row is the reference's result at the row's place in the array. -/
theorem block_row (hf : FiniteAt m c) (t : Fin cfg0.N) (ht : (t : ℕ) < 64) (r : Fin 2048) (h : Fin 2) (e : Fin 128) :
    Cert.Attn.Pay.rowAt (iblk m c 0 t) (iblk m c 1 t) (iblk m c 2 t) (iblk m c 3 t) (iblk m c 4 t) (iblk m c 5 t) (iblk m c 6 t) (iblk m c 7 t)
        (iblk m c 8 t) (iblk m c 9 t) r h e
      = Cert.ReferenceIdeal.Read.val_main_v59 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
        (ix3 ⟨(t : ℕ) / 4, by omega⟩ r ⟨((t : ℕ) % 4 * 2 + h) * 128 + e, by omega⟩) := by
  refine Eq.trans ?_ (ref_row _ _ _ _ _ _ _ _ _ _ hf ⟨(t : ℕ) / 4, by omega⟩ r ⟨(t : ℕ) % 4 * 2 + h, by omega⟩ e)
  unfold Cert.Attn.Pay.rowAt
  rw [named_scale, vec0, vec1, vec2, vec3, keys m c t ht h, vals m c t ht h, queries m c t ht r h, gain]

/-- The output array is the reference's result, read over the argument arrays. -/
theorem final (hf : FiniteAt m c) :
    (dats m 0 c).arrAt 10 cfg0.N
    = Cert.ReferenceIdeal.Read.val_main_v59 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t _ y => ?_
  blk_simp
  rw [after0_10]
  unfold outsAt0
  rw [Cert.Attn.Pay.block]
  idx_vars y
  obtain rfl : y0 = 0 := Subsingleton.elim _ _
  have ht : (t : ℕ) < 64 := t.isLt
  refine (block_row m c hf t ht y1 ⟨(y2 : ℕ) / 128, by omega⟩ ⟨(y2 : ℕ) % 128, by omega⟩).trans (congrArg _ ?_)
  symm
  blk_ext [idx t]

end Cert.KernelIdeal.Value

end
-- ==== Proof.ProjSpec.lean ====
module

public import proofs.«01_k».proof.Proof.PostSpec

@[expose] public section

set_option maxRecDepth 16384

/-! One row of a projection: the modulated row times the weights, and the rotation of the queries' and the keys' heads. -/

noncomputable section

namespace Cert.Proj

open Idealize.ShloMosaic

/-- The rotation of a row of heads of 64 lanes: lane `f` and lane `f + 32` of a head are turned by the angle of frequency `f`. -/
def rotate {n : ℕ} (hn : n % 64 = 0) (y : Fin n → EReal) (cs sn : Fin 32 → EReal) (l : Fin n) : EReal :=
  if h : (l : ℕ) % 64 < 32 then
    y l * cs ⟨(l : ℕ) % 32, by omega⟩ - y ⟨l + 32, by omega⟩ * sn ⟨(l : ℕ) % 32, by omega⟩
  else y ⟨l - 32, by omega⟩ * sn ⟨(l : ℕ) % 32, by omega⟩ + y l * cs ⟨(l : ℕ) % 32, by omega⟩

/-- The product of a row with the weights. -/
def times {n : ℕ} (a : Fin 1024 → EReal) (w : Fin 1024 → Fin n → EReal) (j : Fin n) : EReal := ∑ k, a k * w k j

/-- The same turn as the lane times a cosine plus its partner times a sine that carries the sign. -/
theorem rotate_signed {n : ℕ} (hn : n % 64 = 0) (y : Fin n → EReal) (cs sn : Fin 32 → EReal) (l : Fin n) (p c s : EReal)
    (hc : c = cs ⟨(l : ℕ) % 32, by omega⟩)
    (hs : s = if (l : ℕ) % 64 < 32 then -sn ⟨(l : ℕ) % 32, by omega⟩ else sn ⟨(l : ℕ) % 32, by omega⟩)
    (hp : p = if h : (l : ℕ) % 64 < 32 then y ⟨l + 32, by omega⟩ else y ⟨l - 32, by omega⟩) :
    y l * c + p * s = rotate hn y cs sn l := by
  subst hc hs hp
  unfold rotate
  split_ifs with h
  · rw [mul_neg, ← sub_eq_add_neg]
  · rw [add_comm]

end Cert.Proj

end
-- ==== Proof.ProjPay.lean ====
module

public import proofs.«01_k».proof.Proof.ProjSpec
public import proofs.«01_k».proof.Proof.Gen.Kernel3Ideal.Value

@[expose] public section

set_option maxRecDepth 16384

/-! The projection kernel's values, read at an index in the terms of `ProjSpec`. -/

noncomputable section

namespace Cert.Proj.Pay

open Idealize.ShloMosaic
open Cert.Kernel3Ideal Cert.Kernel3Ideal.Gen

/-- The lanes of the first half of a head. -/
theorem first_half (r : Fin 1024) (l : Fin 128) : k0_pay5 (ix2 r l) = if (l : ℕ) % 64 < 32 then 1#1 else 0#1 := by
  pointwise [k0_pay5]
  revert l
  decide +kernel

/-- A tile of 128 lanes turned by the tables of cosines and of signed sines. -/
def tile (cs sn y : FVec Ideal S1024x128 .f32) : FVec Ideal S1024x128 .f32 :=
  addf (mulf y cs) (mulf (select k0_pay5 (dynamicRotate 1 96#32 none y rotates_S1024x128_d1) (dynamicRotate 1 32#32 none y rotates_S1024x128_d1)) sn)

/-- The tile at an index: the lane times a cosine plus its partner times a signed sine. -/
theorem tile_apply (cs sn y : FVec Ideal S1024x128 .f32) (r : Fin 1024) (l : Fin 128) :
    tile cs sn y (ix2 r l) = y (ix2 r l) * cs (ix2 r l)
      + (if h : (l : ℕ) % 64 < 32 then y (ix2 r ⟨l + 32, by omega⟩) else y (ix2 r ⟨l - 32, by omega⟩)) * sn (ix2 r l) := by
  have hm := first_half r l
  pointwise [tile]
  rw [hm]
  by_cases h : (l : ℕ) % 64 < 32
  · rw [if_pos h, dif_pos h, ValueIdx.select_one, show (⟨((l : ℕ) + 128 - 96) % 128, by omega⟩ : Fin 128) = ⟨l + 32, by omega⟩ from Fin.ext (by show _ % 128 = (l : ℕ) + 32; omega)]
  · rw [if_neg h, dif_neg h, ValueIdx.select_zero, show (⟨((l : ℕ) + 128 - 32) % 128, by omega⟩ : Fin 128) = ⟨l - 32, by omega⟩ from Fin.ext (by show _ % 128 = (l : ℕ) - 32; omega)]

/-- The modulated tile of rows. -/
theorem pay2 (v0 v2 : Vec Ideal S1x1x1024 .f32) (v4 : Vec Ideal S1x1024x1024 .f32) (r j : Fin 1024) :
    k0_pay2 (F := Ideal) v0 v2 v4 (ix2 r j)
      = Cert.Post.modulate (fun k => v4 (ix3 0 r k)) (fun k => v2 (ix3 0 0 k)) (fun k => v0 (ix3 0 0 k)) j := by
  pointwise! [k0_pay2, Cert.Post.modulate]

/-- The product of the modulated tile with the weights. -/
theorem pay6 (h : FVec Ideal S1024x1024 .bf16) (w : Vec Ideal S1024x1024 .bf16) (r j : Fin 1024) :
    k0_pay6 (F := Ideal) h w (ix2 r j) = times (fun k => h (ix2 r k)) (fun k l => w (ix2 k l)) j := by
  pointwise! [k0_pay6, times]

/-- A tile cut out of a row of products at lane `128 * g` is that part of the rotated row. -/
theorem tile_rotate (cs sn y : FVec Ideal S1024x128 .f32) (r : Fin 1024) (l : Fin 128) (j : Fin 1024) (g : ℕ) (hg : g < 8) (hj : (j : ℕ) = 128 * g + l)
    (Y : Fin 1024 → EReal) (C S : Fin 32 → EReal) (hy : ∀ k : Fin 128, y (ix2 r k) = Y ⟨128 * g + k, by omega⟩)
    (hc : ∀ k : Fin 128, cs (ix2 r k) = C ⟨(k : ℕ) % 32, by omega⟩)
    (hs : ∀ k : Fin 128, sn (ix2 r k) = if (k : ℕ) % 64 < 32 then -S ⟨(k : ℕ) % 32, by omega⟩ else S ⟨(k : ℕ) % 32, by omega⟩) :
    tile cs sn y (ix2 r l) = rotate rfl Y C S j := by
  rw [show j = ⟨128 * g + l, by omega⟩ from Fin.ext hj]
  have e : (⟨(128 * g + (l : ℕ)) % 32, by omega⟩ : Fin 32) = ⟨(l : ℕ) % 32, by omega⟩ := Fin.ext (by show _ % 32 = _ % 32; omega)
  rw [tile_apply, hy l]
  refine rotate_signed rfl Y C S _ _ _ _ ?_ ?_ ?_
  · rw [hc]; exact congrArg C e.symm
  · rw [hs]
    by_cases h : (l : ℕ) % 64 < 32
    · rw [if_pos h, if_pos (show (128 * g + (l : ℕ)) % 64 < 32 by omega)]; exact congrArg (fun a => -S a) e.symm
    · rw [if_neg h, if_neg (show ¬ (128 * g + (l : ℕ)) % 64 < 32 by omega)]; exact congrArg S e.symm
  · by_cases h : (l : ℕ) % 64 < 32
    · rw [dif_pos h, dif_pos (show (128 * g + (l : ℕ)) % 64 < 32 by omega), hy]; rfl
    · rw [dif_neg h, dif_neg (show ¬ (128 * g + (l : ℕ)) % 64 < 32 by omega), hy]
      exact congrArg Y (Fin.ext (show 128 * g + ((l : ℕ) - 32) = 128 * g + l - 32 by omega))

end Cert.Proj.Pay

end
-- ==== Proof.ProjBlock.lean ====
module

public import proofs.«01_k».proof.Proof.ProjPay
public import Idealize.ShloMosaic.Lib.Pipeline.ValueKit

@[expose] public section

set_option maxRecDepth 16384

/-! What one grid point of the projection leaves in its three output blocks. -/

noncomputable section

namespace Cert.Proj.Pay

open Idealize.ShloMosaic
open Cert.Kernel3Ideal Cert.Kernel3Ideal.Gen

/-- A stored tile, from the lanes that it was cut out of. -/
theorem core (cs sn q : FVec Ideal S1024x128 .f32) (p : FVec Ideal S1024x1024 .f32) (y : S1x1024x1024.Idx) (w : S1x1024x128.Idx) (g : ℕ) (hg : g < 8)
    (h1 : (y 1 : ℕ) = w 1) (h2 : (y 2 : ℕ) = 128 * g + w 2) (Y : Fin 1024 → EReal) (C S : Fin 32 → EReal)
    (hq : ∀ (r : Fin 1024) (k : Fin 128), q (ix2 r k) = p (ix2 r ⟨128 * g + k, by omega⟩))
    (hp : ∀ k : Fin 1024, p (ix2 (y 1) k) = Y k)
    (hc : ∀ k : Fin 128, cs (ix2 (y 1) k) = C ⟨(k : ℕ) % 32, by omega⟩)
    (hs : ∀ k : Fin 128, sn (ix2 (y 1) k) = if (k : ℕ) % 64 < 32 then -S ⟨(k : ℕ) % 32, by omega⟩ else S ⟨(k : ℕ) % 32, by omega⟩) :
    k0_pay16 (tile cs sn q) w = rotate rfl Y C S (y 2) := by
  idx_vars w
  idx_vars y
  obtain rfl : y1 = w1 := Fin.ext h1
  have e : k0_pay16 (tile cs sn q) (ix3 w0 y1 w2) = tile cs sn q (ix2 y1 w2) := by
    generalize tile cs sn q = u
    pointwise [k0_pay16]
  exact e.trans (tile_rotate cs sn q y1 w2 y2 g hg h2 Y C S (fun k => (hq y1 k).trans (hp _)) hc hs)

variable (x0 : Vec Ideal S1x1024x1024 .f32) (x1 : Vec Ideal S1x1x6144 .f32) (x2 x3 x4 : Vec Ideal S1024x1024 .bf16) (x5 x6 : Vec Ideal S1024x128 .f32)

/-- The modulated row of the block. -/
def rowOf (r : Fin 1024) : Fin 1024 → EReal :=
  Cert.Post.modulate (fun k => x0 (ix3 0 r k)) (fun k => x1 (ix3 0 0 ⟨1024 + k, by omega⟩)) (fun k => x1 (ix3 0 0 ⟨k, by omega⟩))

/-- The modulated tile, in terms of the input blocks. -/
theorem mod_eq (r : Fin 1024) : (fun k => k0_pay46 (F := Ideal) x0 x1 x2 x3 x4 x5 x6 (ix2 r k)) = rowOf x0 x1 r := by
  funext j
  rw [k0_pay46, pay2]
  pointwise
  rfl

/-- The product of the modulated tile with one of the weights. -/
theorem prod_eq (w : Vec Ideal S1024x1024 .bf16) (r j : Fin 1024) :
    k0_pay6 (F := Ideal) (k0_pay46 x0 x1 x2 x3 x4 x5 x6) (View.ld w r0_4) (ix2 r j) = times (rowOf x0 x1 r) (fun k l => w (ix2 k l)) j := by
  rw [pay6, mod_eq]
  refine congrArg (fun u => times (rowOf x0 x1 r) u j) (funext fun k => funext fun l => ?_)
  pointwise

/-- The cosines, read from their block. -/
theorem cos_eq (r : Fin 1024) (k : Fin 128) : k0_pay47 (F := Ideal) x0 x1 x2 x3 x4 x5 x6 (ix2 r k) = x5 (ix2 r k) := by
  pointwise [k0_pay47, k0_pay3]

/-- The signed sines, read from their block. -/
theorem sin_eq (r : Fin 1024) (k : Fin 128) : k0_pay48 (F := Ideal) x0 x1 x2 x3 x4 x5 x6 (ix2 r k) = x6 (ix2 r k) := by
  pointwise [k0_pay48, k0_pay4]

/-- The queries' block at an index: the rotated row of products. -/
theorem stored7 (y : S1x1024x1024.Idx) (C S : Fin 32 → EReal)
    (hc : ∀ k : Fin 128, x5 (ix2 (y 1) k) = C ⟨(k : ℕ) % 32, by omega⟩)
    (hs : ∀ k : Fin 128, x6 (ix2 (y 1) k) = if (k : ℕ) % 64 < 32 then -S ⟨(k : ℕ) % 32, by omega⟩ else S ⟨(k : ℕ) % 32, by omega⟩) :
    out0_7 (F := Ideal) x0 x1 x2 x3 x4 x5 x6 y = rotate rfl (times (rowOf x0 x1 (y 1)) (fun k l => x2 (ix2 k l))) C S (y 2) := by
  have hcos := fun k => (cos_eq x0 x1 x2 x3 x4 x5 x6 (y 1) k).trans (hc k)
  have hsin := fun k => (sin_eq x0 x1 x2 x3 x4 x5 x6 (y 1) k).trans (hs k)
  have hprod := prod_eq x0 x1 x2 x3 x4 x5 x6 x2 (y 1)
  clear hc hs
  unfold out0_7
  canon_tiles x h
  case piece0 =>
    refine Eq.trans (show _ = k0_pay16 (F := Ideal) (tile (k0_pay47 x0 x1 x2 x3 x4 x5 x6) (k0_pay48 x0 x1 x2 x3 x4 x5 x6) (extractStridedSlice S1024x128 ![0, 896] (k0_pay6 (k0_pay46 x0 x1 x2 x3 x4 x5 x6) (View.ld x2 r0_4)) slices_S1024x1024_o0_896_S1024x128)) x from rfl) ?_
    exact core _ _ _ _ y x 7 (by omega) (by omega) (by show (y 2 : ℕ) = 128 * 7 + x 2; omega) _ C S (fun r k => by generalize k0_pay6 (F := Ideal) _ _ = u; pointwise) hprod hcos hsin
  case piece1 =>
    refine Eq.trans (show _ = k0_pay16 (F := Ideal) (tile (k0_pay47 x0 x1 x2 x3 x4 x5 x6) (k0_pay48 x0 x1 x2 x3 x4 x5 x6) (extractStridedSlice S1024x128 ![0, 768] (k0_pay6 (k0_pay46 x0 x1 x2 x3 x4 x5 x6) (View.ld x2 r0_4)) slices_S1024x1024_o0_768_S1024x128)) x from rfl) ?_
    exact core _ _ _ _ y x 6 (by omega) (by omega) (by show (y 2 : ℕ) = 128 * 6 + x 2; omega) _ C S (fun r k => by generalize k0_pay6 (F := Ideal) _ _ = u; pointwise) hprod hcos hsin
  case piece2 =>
    refine Eq.trans (show _ = k0_pay16 (F := Ideal) (tile (k0_pay47 x0 x1 x2 x3 x4 x5 x6) (k0_pay48 x0 x1 x2 x3 x4 x5 x6) (extractStridedSlice S1024x128 ![0, 640] (k0_pay6 (k0_pay46 x0 x1 x2 x3 x4 x5 x6) (View.ld x2 r0_4)) slices_S1024x1024_o0_640_S1024x128)) x from rfl) ?_
    exact core _ _ _ _ y x 5 (by omega) (by omega) (by show (y 2 : ℕ) = 128 * 5 + x 2; omega) _ C S (fun r k => by generalize k0_pay6 (F := Ideal) _ _ = u; pointwise) hprod hcos hsin
  case piece3 =>
    refine Eq.trans (show _ = k0_pay16 (F := Ideal) (tile (k0_pay47 x0 x1 x2 x3 x4 x5 x6) (k0_pay48 x0 x1 x2 x3 x4 x5 x6) (extractStridedSlice S1024x128 ![0, 512] (k0_pay6 (k0_pay46 x0 x1 x2 x3 x4 x5 x6) (View.ld x2 r0_4)) slices_S1024x1024_o0_512_S1024x128)) x from rfl) ?_
    exact core _ _ _ _ y x 4 (by omega) (by omega) (by show (y 2 : ℕ) = 128 * 4 + x 2; omega) _ C S (fun r k => by generalize k0_pay6 (F := Ideal) _ _ = u; pointwise) hprod hcos hsin
  case piece4 =>
    refine Eq.trans (show _ = k0_pay16 (F := Ideal) (tile (k0_pay47 x0 x1 x2 x3 x4 x5 x6) (k0_pay48 x0 x1 x2 x3 x4 x5 x6) (extractStridedSlice S1024x128 ![0, 384] (k0_pay6 (k0_pay46 x0 x1 x2 x3 x4 x5 x6) (View.ld x2 r0_4)) slices_S1024x1024_o0_384_S1024x128)) x from rfl) ?_
    exact core _ _ _ _ y x 3 (by omega) (by omega) (by show (y 2 : ℕ) = 128 * 3 + x 2; omega) _ C S (fun r k => by generalize k0_pay6 (F := Ideal) _ _ = u; pointwise) hprod hcos hsin
  case piece5 =>
    refine Eq.trans (show _ = k0_pay16 (F := Ideal) (tile (k0_pay47 x0 x1 x2 x3 x4 x5 x6) (k0_pay48 x0 x1 x2 x3 x4 x5 x6) (extractStridedSlice S1024x128 ![0, 256] (k0_pay6 (k0_pay46 x0 x1 x2 x3 x4 x5 x6) (View.ld x2 r0_4)) slices_S1024x1024_o0_256_S1024x128)) x from rfl) ?_
    exact core _ _ _ _ y x 2 (by omega) (by omega) (by show (y 2 : ℕ) = 128 * 2 + x 2; omega) _ C S (fun r k => by generalize k0_pay6 (F := Ideal) _ _ = u; pointwise) hprod hcos hsin
  case piece6 =>
    refine Eq.trans (show _ = k0_pay16 (F := Ideal) (tile (k0_pay47 x0 x1 x2 x3 x4 x5 x6) (k0_pay48 x0 x1 x2 x3 x4 x5 x6) (extractStridedSlice S1024x128 ![0, 128] (k0_pay6 (k0_pay46 x0 x1 x2 x3 x4 x5 x6) (View.ld x2 r0_4)) slices_S1024x1024_o0_128_S1024x128)) x from rfl) ?_
    exact core _ _ _ _ y x 1 (by omega) (by omega) (by show (y 2 : ℕ) = 128 * 1 + x 2; omega) _ C S (fun r k => by generalize k0_pay6 (F := Ideal) _ _ = u; pointwise) hprod hcos hsin
  case piece7 =>
    refine Eq.trans (show _ = k0_pay16 (F := Ideal) (tile (k0_pay47 x0 x1 x2 x3 x4 x5 x6) (k0_pay48 x0 x1 x2 x3 x4 x5 x6) (extractStridedSlice S1024x128 ![0, 0] (k0_pay6 (k0_pay46 x0 x1 x2 x3 x4 x5 x6) (View.ld x2 r0_4)) slices_S1024x1024_o0_0_S1024x128)) x from rfl) ?_
    exact core _ _ _ _ y x 0 (by omega) (by omega) (by show (y 2 : ℕ) = 128 * 0 + x 2; omega) _ C S (fun r k => by generalize k0_pay6 (F := Ideal) _ _ = u; pointwise) hprod hcos hsin

/-- The same, at a row and a lane. -/
theorem block7 (r j : Fin 1024) (C S : Fin 32 → EReal)
    (hc : ∀ k : Fin 128, x5 (ix2 r k) = C ⟨(k : ℕ) % 32, by omega⟩)
    (hs : ∀ k : Fin 128, x6 (ix2 r k) = if (k : ℕ) % 64 < 32 then -S ⟨(k : ℕ) % 32, by omega⟩ else S ⟨(k : ℕ) % 32, by omega⟩) :
    out0_7 (F := Ideal) x0 x1 x2 x3 x4 x5 x6 (ix3 0 r j) = rotate rfl (times (rowOf x0 x1 r) (fun k l => x2 (ix2 k l))) C S j :=
  stored7 x0 x1 x2 x3 x4 x5 x6 (ix3 0 r j) C S hc hs

/-- The keys' block at an index: the rotated row of products. -/
theorem stored8 (y : S1x1024x1024.Idx) (C S : Fin 32 → EReal)
    (hc : ∀ k : Fin 128, x5 (ix2 (y 1) k) = C ⟨(k : ℕ) % 32, by omega⟩)
    (hs : ∀ k : Fin 128, x6 (ix2 (y 1) k) = if (k : ℕ) % 64 < 32 then -S ⟨(k : ℕ) % 32, by omega⟩ else S ⟨(k : ℕ) % 32, by omega⟩) :
    out0_8 (F := Ideal) x0 x1 x2 x3 x4 x5 x6 y = rotate rfl (times (rowOf x0 x1 (y 1)) (fun k l => x3 (ix2 k l))) C S (y 2) := by
  have hcos := fun k => (cos_eq x0 x1 x2 x3 x4 x5 x6 (y 1) k).trans (hc k)
  have hsin := fun k => (sin_eq x0 x1 x2 x3 x4 x5 x6 (y 1) k).trans (hs k)
  have hprod := prod_eq x0 x1 x2 x3 x4 x5 x6 x3 (y 1)
  clear hc hs
  unfold out0_8
  canon_tiles x h
  case piece0 =>
    refine Eq.trans (show _ = k0_pay16 (F := Ideal) (tile (k0_pay47 x0 x1 x2 x3 x4 x5 x6) (k0_pay48 x0 x1 x2 x3 x4 x5 x6) (extractStridedSlice S1024x128 ![0, 896] (k0_pay6 (k0_pay46 x0 x1 x2 x3 x4 x5 x6) (View.ld x3 r0_4)) slices_S1024x1024_o0_896_S1024x128)) x from rfl) ?_
    exact core _ _ _ _ y x 7 (by omega) (by omega) (by show (y 2 : ℕ) = 128 * 7 + x 2; omega) _ C S (fun r k => by generalize k0_pay6 (F := Ideal) _ _ = u; pointwise) hprod hcos hsin
  case piece1 =>
    refine Eq.trans (show _ = k0_pay16 (F := Ideal) (tile (k0_pay47 x0 x1 x2 x3 x4 x5 x6) (k0_pay48 x0 x1 x2 x3 x4 x5 x6) (extractStridedSlice S1024x128 ![0, 768] (k0_pay6 (k0_pay46 x0 x1 x2 x3 x4 x5 x6) (View.ld x3 r0_4)) slices_S1024x1024_o0_768_S1024x128)) x from rfl) ?_
    exact core _ _ _ _ y x 6 (by omega) (by omega) (by show (y 2 : ℕ) = 128 * 6 + x 2; omega) _ C S (fun r k => by generalize k0_pay6 (F := Ideal) _ _ = u; pointwise) hprod hcos hsin
  case piece2 =>
    refine Eq.trans (show _ = k0_pay16 (F := Ideal) (tile (k0_pay47 x0 x1 x2 x3 x4 x5 x6) (k0_pay48 x0 x1 x2 x3 x4 x5 x6) (extractStridedSlice S1024x128 ![0, 640] (k0_pay6 (k0_pay46 x0 x1 x2 x3 x4 x5 x6) (View.ld x3 r0_4)) slices_S1024x1024_o0_640_S1024x128)) x from rfl) ?_
    exact core _ _ _ _ y x 5 (by omega) (by omega) (by show (y 2 : ℕ) = 128 * 5 + x 2; omega) _ C S (fun r k => by generalize k0_pay6 (F := Ideal) _ _ = u; pointwise) hprod hcos hsin
  case piece3 =>
    refine Eq.trans (show _ = k0_pay16 (F := Ideal) (tile (k0_pay47 x0 x1 x2 x3 x4 x5 x6) (k0_pay48 x0 x1 x2 x3 x4 x5 x6) (extractStridedSlice S1024x128 ![0, 512] (k0_pay6 (k0_pay46 x0 x1 x2 x3 x4 x5 x6) (View.ld x3 r0_4)) slices_S1024x1024_o0_512_S1024x128)) x from rfl) ?_
    exact core _ _ _ _ y x 4 (by omega) (by omega) (by show (y 2 : ℕ) = 128 * 4 + x 2; omega) _ C S (fun r k => by generalize k0_pay6 (F := Ideal) _ _ = u; pointwise) hprod hcos hsin
  case piece4 =>
    refine Eq.trans (show _ = k0_pay16 (F := Ideal) (tile (k0_pay47 x0 x1 x2 x3 x4 x5 x6) (k0_pay48 x0 x1 x2 x3 x4 x5 x6) (extractStridedSlice S1024x128 ![0, 384] (k0_pay6 (k0_pay46 x0 x1 x2 x3 x4 x5 x6) (View.ld x3 r0_4)) slices_S1024x1024_o0_384_S1024x128)) x from rfl) ?_
    exact core _ _ _ _ y x 3 (by omega) (by omega) (by show (y 2 : ℕ) = 128 * 3 + x 2; omega) _ C S (fun r k => by generalize k0_pay6 (F := Ideal) _ _ = u; pointwise) hprod hcos hsin
  case piece5 =>
    refine Eq.trans (show _ = k0_pay16 (F := Ideal) (tile (k0_pay47 x0 x1 x2 x3 x4 x5 x6) (k0_pay48 x0 x1 x2 x3 x4 x5 x6) (extractStridedSlice S1024x128 ![0, 256] (k0_pay6 (k0_pay46 x0 x1 x2 x3 x4 x5 x6) (View.ld x3 r0_4)) slices_S1024x1024_o0_256_S1024x128)) x from rfl) ?_
    exact core _ _ _ _ y x 2 (by omega) (by omega) (by show (y 2 : ℕ) = 128 * 2 + x 2; omega) _ C S (fun r k => by generalize k0_pay6 (F := Ideal) _ _ = u; pointwise) hprod hcos hsin
  case piece6 =>
    refine Eq.trans (show _ = k0_pay16 (F := Ideal) (tile (k0_pay47 x0 x1 x2 x3 x4 x5 x6) (k0_pay48 x0 x1 x2 x3 x4 x5 x6) (extractStridedSlice S1024x128 ![0, 128] (k0_pay6 (k0_pay46 x0 x1 x2 x3 x4 x5 x6) (View.ld x3 r0_4)) slices_S1024x1024_o0_128_S1024x128)) x from rfl) ?_
    exact core _ _ _ _ y x 1 (by omega) (by omega) (by show (y 2 : ℕ) = 128 * 1 + x 2; omega) _ C S (fun r k => by generalize k0_pay6 (F := Ideal) _ _ = u; pointwise) hprod hcos hsin
  case piece7 =>
    refine Eq.trans (show _ = k0_pay16 (F := Ideal) (tile (k0_pay47 x0 x1 x2 x3 x4 x5 x6) (k0_pay48 x0 x1 x2 x3 x4 x5 x6) (extractStridedSlice S1024x128 ![0, 0] (k0_pay6 (k0_pay46 x0 x1 x2 x3 x4 x5 x6) (View.ld x3 r0_4)) slices_S1024x1024_o0_0_S1024x128)) x from rfl) ?_
    exact core _ _ _ _ y x 0 (by omega) (by omega) (by show (y 2 : ℕ) = 128 * 0 + x 2; omega) _ C S (fun r k => by generalize k0_pay6 (F := Ideal) _ _ = u; pointwise) hprod hcos hsin

/-- The same, at a row and a lane. -/
theorem block8 (r j : Fin 1024) (C S : Fin 32 → EReal)
    (hc : ∀ k : Fin 128, x5 (ix2 r k) = C ⟨(k : ℕ) % 32, by omega⟩)
    (hs : ∀ k : Fin 128, x6 (ix2 r k) = if (k : ℕ) % 64 < 32 then -S ⟨(k : ℕ) % 32, by omega⟩ else S ⟨(k : ℕ) % 32, by omega⟩) :
    out0_8 (F := Ideal) x0 x1 x2 x3 x4 x5 x6 (ix3 0 r j) = rotate rfl (times (rowOf x0 x1 r) (fun k l => x3 (ix2 k l))) C S j :=
  stored8 x0 x1 x2 x3 x4 x5 x6 (ix3 0 r j) C S hc hs

/-- The values' block at an index: the row of products. -/
theorem block9 (r j : Fin 1024) : out0_9 (F := Ideal) x0 x1 x2 x3 x4 x5 x6 (ix3 0 r j) = times (rowOf x0 x1 r) (fun k l => x4 (ix2 k l)) j := by
  rw [← prod_eq x0 x1 x2 x3 x4 x5 x6]
  unfold out0_9
  frame_out
  generalize k0_pay46 x0 x1 x2 x3 x4 x5 x6 = u
  pointwise! [k0_pay1, k0_pay45, k0_pay6]

end Cert.Proj.Pay

end
-- ==== Proof.ProjRef.lean ====
module

public import proofs.«01_k».proof.Proof.ProjSpec
public import proofs.«01_k».proof.Proof.Gen.Reference3Ideal.Read

@[expose] public section

set_option maxRecDepth 16384

/-! The reference of the projections, read at an index: the modulated row times the weights, with the queries' and the keys' heads rotated. -/

noncomputable section

namespace Cert.Proj.Ref

open Idealize.ShloMosaic Idealize.ShloMosaic.StableHlo
open Cert.Reference3Ideal Cert.Reference3Ideal.Gen Cert.Reference3Ideal.Read

/-- The rotation as the reference writes it: the heads split in halves, each half turned, the halves joined. -/
def turn (p : FVec Ideal S16x2048x1024 .f32) (cs sn : FVec Ideal S2048x32 .f32) : FVec Ideal S16x2048x1024 .f32 :=
  let y : FVec Ideal S16x2048x8x2x64 .f32 := shapeCast _ p shapeCasts_S16x2048x1024_S16x2048x8x2x64
  let lo : FVec Ideal S16x2048x8x2x32 .f32 := extractStridedSlice S16x2048x8x2x32 ![0, 0, 0, 0, 0] y slices_S16x2048x8x2x64_S16x2048x8x2x32_0_0_0_0_0
  let hi : FVec Ideal S16x2048x8x2x32 .f32 := extractStridedSlice S16x2048x8x2x32 ![0, 0, 0, 0, 32] y slices_S16x2048x8x2x64_S16x2048x8x2x32_0_0_0_0_32
  let c : FVec Ideal S16x2048x8x2x32 .f32 := broadcastInDim S16x2048x8x2x32 ![0, 1, 2, 3, 4] bcast_S1x2048x1x1x32_S16x2048x8x2x32_0_1_2_3_4
    (shapeCast _ cs shapeCasts_S2048x32_S1x2048x1x1x32 : FVec Ideal S1x2048x1x1x32 .f32)
  let s : FVec Ideal S16x2048x8x2x32 .f32 := broadcastInDim S16x2048x8x2x32 ![0, 1, 2, 3, 4] bcast_S1x2048x1x1x32_S16x2048x8x2x32_0_1_2_3_4
    (shapeCast _ sn shapeCasts_S2048x32_S1x2048x1x1x32 : FVec Ideal S1x2048x1x1x32 .f32)
  shapeCast _ (concatenate S16x2048x8x2x64 4 [⟨S16x2048x8x2x32, subf (mulf lo c) (mulf hi s)⟩, ⟨S16x2048x8x2x32, addf (mulf lo s) (mulf hi c)⟩]
    concatenates_S16x2048x8x2x32_S16x2048x8x2x32_S16x2048x8x2x64_d4) shapeCasts_S16x2048x8x2x64_S16x2048x1024

variable (x0 : FVec Ideal S16x2048x1024 .f32) (x1 : FVec Ideal S16x6144 .f32) (w : FVec Ideal S1x1024x1024 .f32)

/-- The queries are rotated so. -/
theorem v77 : val_main_v77 (F := Ideal) x0 x1 w = turn (val_main_v40 (F := Ideal) x0 x1 w) (val_main_v24 (F := Ideal)) (val_main_v25 (F := Ideal)) := rfl

/-- And the keys. -/
theorem v79 : val_main_v79 (F := Ideal) x0 x1 w = turn (val_main_v58 (F := Ideal) x0 x1 w) (val_main_v24 (F := Ideal)) (val_main_v25 (F := Ideal)) := rfl

/-- The rotation at an index. -/
theorem turn_apply (p : FVec Ideal S16x2048x1024 .f32) (cs sn : FVec Ideal S2048x32 .f32) (b : Fin 16) (r : Fin 2048) (j : Fin 1024) :
    turn p cs sn (ix3 b r j) = rotate rfl (fun k => p (ix3 b r k)) (fun f => cs (ix2 r f)) (fun f => sn (ix2 r f)) j := by
  pointwise [turn]
  unfold rotate
  by_cases h : (j : ℕ) % 64 < 32
  · have ec : (⟨(j : ℕ) % 64, by omega⟩ : Fin 32) = ⟨(j : ℕ) % 32, by omega⟩ := Fin.ext (show (j : ℕ) % 64 = j % 32 by omega)
    have ej : (⟨(j : ℕ) / 128 * 128 + (j : ℕ) / 64 % 2 * 64 + (32 + (j : ℕ) % 64), by omega⟩ : Fin 1024) = ⟨j + 32, by omega⟩ :=
      Fin.ext (show (j : ℕ) / 128 * 128 + (j : ℕ) / 64 % 2 * 64 + (32 + (j : ℕ) % 64) = j + 32 by omega)
    rw [dif_pos h, dif_pos h]
    exact congrArg₂ HSub.hSub (congrArg₂ HMul.hMul rfl (congrArg (fun f => cs (ix2 r f)) ec))
      (congrArg₂ HMul.hMul (congrArg (fun k => p (ix3 b r k)) ej) (congrArg (fun f => sn (ix2 r f)) ec))
  · have ec : (⟨(j : ℕ) % 64 - 32, by omega⟩ : Fin 32) = ⟨(j : ℕ) % 32, by omega⟩ := Fin.ext (show (j : ℕ) % 64 - 32 = j % 32 by omega)
    have ei : (⟨(j : ℕ) / 128 * 128 + (j : ℕ) / 64 % 2 * 64 + ((j : ℕ) % 64 - 32), by omega⟩ : Fin 1024) = ⟨j - 32, by omega⟩ :=
      Fin.ext (show (j : ℕ) / 128 * 128 + (j : ℕ) / 64 % 2 * 64 + ((j : ℕ) % 64 - 32) = j - 32 by omega)
    have ej : (⟨(j : ℕ) / 128 * 128 + (j : ℕ) / 64 % 2 * 64 + (32 + ((j : ℕ) % 64 - 32)), by omega⟩ : Fin 1024) = j :=
      Fin.ext (show (j : ℕ) / 128 * 128 + (j : ℕ) / 64 % 2 * 64 + (32 + ((j : ℕ) % 64 - 32)) = j by omega)
    rw [dif_neg h, dif_neg h]
    exact congrArg₂ HAdd.hAdd (congrArg₂ HMul.hMul (congrArg (fun k => p (ix3 b r k)) ei) (congrArg (fun f => sn (ix2 r f)) ec))
      (congrArg₂ HMul.hMul (congrArg (fun k => p (ix3 b r k)) ej) (congrArg (fun f => cs (ix2 r f)) ec))

/-- The modulated activations. -/
theorem v38 (b : Fin 16) (r : Fin 2048) (j : Fin 1024) : val_main_v38 (F := Ideal) x0 x1 (ix3 b r j)
    = Cert.Post.modulate (fun k => x0 (ix3 b r k)) (fun k => x1 (ix2 b ⟨1024 + k, by omega⟩)) (fun k => x1 (ix2 b ⟨k, by omega⟩)) j := by
  pointwise! [val_main_v38, val_main_v37, val_main_v36, val_main_v35, val_main_v34, val_main_v33, val_main_cst_1, val_main_v28, val_main_v27, val_main_v26, Cert.Post.modulate]

/-- The modulated row of a batch. -/
def rowOf (b : Fin 16) (r : Fin 2048) : Fin 1024 → EReal :=
  Cert.Post.modulate (fun k => x0 (ix3 b r k)) (fun k => x1 (ix2 b ⟨1024 + k, by omega⟩)) (fun k => x1 (ix2 b ⟨k, by omega⟩))

/-- The product of the modulated activations with the queries' weights. -/
theorem v40 (b : Fin 16) (r : Fin 2048) (j : Fin 1024) :
    val_main_v40 (F := Ideal) x0 x1 w (ix3 b r j) = times (rowOf x0 x1 b r) (fun k l => w (ix3 0 k l)) j := by
  have h : (fun k => val_main_v38 (F := Ideal) x0 x1 (ix3 b r k)) = rowOf x0 x1 b r := funext fun k => v38 x0 x1 b r k
  rw [← h]
  unfold val_main_v40
  generalize val_main_v38 (F := Ideal) x0 x1 = u
  pointwise [val_main_v39, times]

/-- The rotated product at an index. -/
theorem turned (b : Fin 16) (r : Fin 2048) (j : Fin 1024) :
    turn (val_main_v40 (F := Ideal) x0 x1 w) (val_main_v24 (F := Ideal)) (val_main_v25 (F := Ideal)) (ix3 b r j)
      = rotate rfl (times (rowOf x0 x1 b r) (fun k l => w (ix3 0 k l)))
          (fun f => val_main_v24 (F := Ideal) (ix2 r f)) (fun f => val_main_v25 (F := Ideal) (ix2 r f)) j := by
  rw [turn_apply]
  exact congrArg (fun y => rotate rfl y (fun f => val_main_v24 (F := Ideal) (ix2 r f)) (fun f => val_main_v25 (F := Ideal) (ix2 r f)) j)
    (funext (v40 x0 x1 w b r))

/-- The keys' product is the same function of its weights as the queries'. -/
theorem v58 : val_main_v58 (F := Ideal) x0 x1 w = val_main_v40 (F := Ideal) x0 x1 w := by
  unfold val_main_v58 val_main_v40 val_main_v57 val_main_v39
  rfl

/-- And so is the values'. -/
theorem v76 : val_main_v76 (F := Ideal) x0 x1 w = val_main_v40 (F := Ideal) x0 x1 w := by
  unfold val_main_v76 val_main_v40 val_main_v75 val_main_v39
  rfl

/-- Narrowing leaves an extended real as it is. -/
theorem narrowed (x : Ideal .f32) : FloatOps.truncf (F := Ideal) .bf16 bitsLt_bf16_f32 x = x := rfl

/-- The queries at an index. -/
theorem queries (b : Fin 16) (r : Fin 2048) (j : Fin 1024) :
    val_main_v78 (F := Ideal) x0 x1 w (ix3 b r j) = rotate rfl (times (rowOf x0 x1 b r) (fun k l => w (ix3 0 k l)))
      (fun f => val_main_v24 (F := Ideal) (ix2 r f)) (fun f => val_main_v25 (F := Ideal) (ix2 r f)) j := by
  rw [← turned x0 x1 w b r j, ← v77]
  exact (val_main_v78_apply (F := Ideal) x0 x1 w (ix3 b r j)).trans (narrowed _)

/-- The keys at an index. -/
theorem keys (b : Fin 16) (r : Fin 2048) (j : Fin 1024) :
    val_main_v80 (F := Ideal) x0 x1 w (ix3 b r j) = rotate rfl (times (rowOf x0 x1 b r) (fun k l => w (ix3 0 k l)))
      (fun f => val_main_v24 (F := Ideal) (ix2 r f)) (fun f => val_main_v25 (F := Ideal) (ix2 r f)) j := by
  rw [← turned x0 x1 w b r j, ← v58, ← v79]
  exact (val_main_v80_apply (F := Ideal) x0 x1 w (ix3 b r j)).trans (narrowed _)

/-- The values at an index. -/
theorem values (b : Fin 16) (r : Fin 2048) (j : Fin 1024) :
    val_main_v81 (F := Ideal) x0 x1 w (ix3 b r j) = times (rowOf x0 x1 b r) (fun k l => w (ix3 0 k l)) j := by
  rw [← v40 x0 x1 w b r j, ← v76]
  exact (val_main_v81_apply (F := Ideal) x0 x1 w (ix3 b r j)).trans (narrowed _)

end Cert.Proj.Ref

end
-- ==== Proof.ProjTab.lean ====
module

public import proofs.«01_k».proof.Proof.ProjRef
public import proofs.«01_k».proof.Proof.Gen.Kernel3Ideal.Value
public import Idealize.ShloMosaic.Lib.Claim

@[expose] public section

set_option maxRecDepth 16384

/-! The tables of cosines and of signed sines that the projection's host code lays out for its kernel. -/

noncomputable section

namespace Cert.Kernel3Ideal.Value

open Idealize.ShloMosaic Idealize.ShloMosaic.TcCoe Idealize.SL.Sem
open Cert.Kernel3Ideal Cert.Kernel3Ideal.Gen

/-- A table of 32 columns, four times over. -/
def spread (u : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, u⟩, ⟨S2048x32, u⟩] concatenates_S2048x32_S2048x32_S2048x64_d1 : FVec Ideal S2048x64 .f32)
      shapeCasts_S2048x64_S1x2048x1x64 : FVec Ideal S1x2048x1x64 .f32) : FVec Ideal S1x2048x2x64 .f32) shapeCasts_S1x2048x2x64_S2048x128

/-- A table of 32 columns negated, then plain, twice over. -/
def signed (u : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, Host.negf u⟩, ⟨S2048x32, u⟩] concatenates_S2048x32_S2048x32_S2048x64_d1 : FVec Ideal S2048x64 .f32)
      shapeCasts_S2048x64_S1x2048x1x64 : FVec Ideal S1x2048x1x64 .f32) : FVec Ideal S1x2048x2x64 .f32) shapeCasts_S1x2048x2x64_S2048x128

/-- The one table at an index. -/
theorem spread_at (u : FVec Ideal S2048x32 .f32) (r : Fin 2048) (k : Fin 128) : spread u (ix2 r k) = u (ix2 r ⟨(k : ℕ) % 32, by omega⟩) := by
  pointwise [spread]
  by_cases h : (k : ℕ) % 64 < 32
  · rw [dif_pos h]
    exact congrArg (fun f => u (ix2 r f)) (Fin.ext (show (k : ℕ) % 64 = k % 32 by omega))
  · rw [dif_neg h]
    exact congrArg (fun f => u (ix2 r f)) (Fin.ext (show (k : ℕ) % 64 - 32 = k % 32 by omega))

/-- The other at an index. -/
theorem signed_at (u : FVec Ideal S2048x32 .f32) (r : Fin 2048) (k : Fin 128) : signed u (ix2 r k)
    = if (k : ℕ) % 64 < 32 then -(u (ix2 r ⟨(k : ℕ) % 32, by omega⟩)) else u (ix2 r ⟨(k : ℕ) % 32, by omega⟩) := by
  pointwise [signed]
  by_cases h : (k : ℕ) % 64 < 32
  · rw [dif_pos h, if_pos h]
    exact congrArg (fun f => -u (ix2 r f)) (Fin.ext (show (k : ℕ) % 64 = k % 32 by omega))
  · rw [dif_neg h, if_neg h]
    exact congrArg (fun f => u (ix2 r f)) (Fin.ext (show (k : ℕ) % 64 - 32 = k % 32 by omega))

variable (m : (ℓ : Loc nD τ sig) → Buf (Elt Ideal) ℓ) (c : Dev nD)

/-- The table of cosines: the reference's 32 columns, four times over. -/
theorem cos_table : V m c main_v29 = spread (Cert.Reference3Ideal.Read.val_main_v24 (F := Ideal)) := by
  entry_read
  rfl

/-- The table of signed sines: the reference's 32 columns negated, then plain, twice over. -/
theorem sin_table : V m c main_v34 = signed (Cert.Reference3Ideal.Read.val_main_v25 (F := Ideal)) := by
  entry_read
  rfl

/-- The table of cosines at an index. -/
theorem cos_at (r : Fin 2048) (k : Fin 128) : (V m c main_v29 : Vec Ideal S2048x128 .f32) (ix2 r k)
    = Cert.Reference3Ideal.Read.val_main_v24 (F := Ideal) (ix2 r ⟨(k : ℕ) % 32, by omega⟩) := by
  rw [cos_table]
  exact spread_at _ r k

/-- The table of signed sines at an index. -/
theorem sin_at (r : Fin 2048) (k : Fin 128) : (V m c main_v34 : Vec Ideal S2048x128 .f32) (ix2 r k)
    = if (k : ℕ) % 64 < 32 then -(Cert.Reference3Ideal.Read.val_main_v25 (F := Ideal) (ix2 r ⟨(k : ℕ) % 32, by omega⟩))
      else Cert.Reference3Ideal.Read.val_main_v25 (F := Ideal) (ix2 r ⟨(k : ℕ) % 32, by omega⟩) := by
  rw [sin_table]
  exact signed_at _ r k

end Cert.Kernel3Ideal.Value

end
-- ==== Proof.ProjVal.lean ====
module

public import proofs.«01_k».proof.Proof.ProjBlock
public import proofs.«01_k».proof.Proof.ProjTab
public import Idealize.ShloMosaic.Lib.Pipeline.ValueKit

@[expose] public section

set_option maxRecDepth 16384

/-! The projection's three output arrays as the reference's results over the argument arrays. -/

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

/-- Where each window's block lies at grid point `t`: batch `t / 2`, row tile `t % 2`, the weights whole. -/
theorem idx : ∀ t : Fin cfg0.N, win0_0.index t = ![(t : ℕ) / 2, (t : ℕ) % 2, 0] ∧ win0_1.index t = ![(t : ℕ) / 2, 0, 0]
    ∧ win0_2.index t = ![0, 0] ∧ win0_3.index t = ![0, 0] ∧ win0_4.index t = ![0, 0] ∧ win0_5.index t = ![(t : ℕ) % 2, 0]
    ∧ win0_6.index t = ![(t : ℕ) % 2, 0] ∧ win0_7.index t = ![(t : ℕ) / 2, (t : ℕ) % 2, 0]
    ∧ win0_8.index t = ![(t : ℕ) / 2, (t : ℕ) % 2, 0] ∧ win0_9.index t = ![(t : ℕ) / 2, (t : ℕ) % 2, 0] :=
  (by decide +kernel : ∀ t : Fin grid0.N, _)

variable (m : (ℓ : Loc nD τ sig) → Buf (Elt Ideal) ℓ) (c : Dev nD)

/-- The modulated row of a block is the one of its batch. -/
theorem row_eq (t : Fin cfg0.N) (ht : (t : ℕ) < 32) (r : Fin 1024) : Cert.Proj.Pay.rowOf (iblk m c 0 t) (iblk m c 1 t) r
    = Cert.Proj.Ref.rowOf (m ((c : Thread nD τ).loc main_arg0)) (m ((c : Thread nD τ).loc main_arg1))
        (⟨(t : ℕ) / 2, by omega⟩ : Fin 16) (⟨(t : ℕ) % 2 * 1024 + r, by omega⟩ : Fin 2048) := by
  unfold Cert.Proj.Pay.rowOf Cert.Proj.Ref.rowOf
  congr 1 <;> funext k
  · blk_point [iblk, V, idx t]
  · blk_point [iblk, V, idx t]
  · blk_point [iblk, V, idx t]

/-- The queries' weights. -/
theorem wq_eq (t : Fin cfg0.N) (k l : Fin 1024) :
    (iblk m c 2 t : Vec Ideal S1024x1024 .bf16) (ix2 k l) = m ((c : Thread nD τ).loc main_arg2) (ix3 0 k l) := by
  blk_point [iblk, V, idx t]

/-- The keys' weights. -/
theorem wk_eq (t : Fin cfg0.N) (k l : Fin 1024) :
    (iblk m c 3 t : Vec Ideal S1024x1024 .bf16) (ix2 k l) = m ((c : Thread nD τ).loc main_arg3) (ix3 0 k l) := by
  blk_point [iblk, V, idx t]

/-- The values' weights. -/
theorem wv_eq (t : Fin cfg0.N) (k l : Fin 1024) :
    (iblk m c 4 t : Vec Ideal S1024x1024 .bf16) (ix2 k l) = m ((c : Thread nD τ).loc main_arg4) (ix3 0 k l) := by
  blk_point [iblk, V, idx t]

/-- A block of the table of cosines. -/
theorem cos_block (t : Fin cfg0.N) (r : Fin 1024) (k : Fin 128) :
    (iblk m c 5 t : Vec Ideal S1024x128 .f32) (ix2 r k) = (V m c main_v29 : Vec Ideal S2048x128 .f32) (ix2 (⟨(t : ℕ) % 2 * 1024 + r, by omega⟩ : Fin 2048) k) := by
  blk_ext [iblk, idx t]

/-- A block of the table of signed sines. -/
theorem sin_block (t : Fin cfg0.N) (r : Fin 1024) (k : Fin 128) :
    (iblk m c 6 t : Vec Ideal S1024x128 .f32) (ix2 r k) = (V m c main_v34 : Vec Ideal S2048x128 .f32) (ix2 (⟨(t : ℕ) % 2 * 1024 + r, by omega⟩ : Fin 2048) k) := by
  blk_ext [iblk, idx t]

/-- The queries' array is the reference's, read over the argument arrays. -/
theorem final7 : (dats m 0 c).arrAt 7 cfg0.N
    = Cert.Reference3Ideal.Read.val_main_v78 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  idx_vars y
  obtain rfl : y0 = 0 := Subsingleton.elim _ _
  have ht : (t : ℕ) < 32 := t.isLt
  refine (Cert.Proj.Pay.block7 _ _ _ _ _ _ _ y1 y2
    (fun f => Cert.Reference3Ideal.Read.val_main_v24 (F := Ideal) (ix2 (⟨(t : ℕ) % 2 * 1024 + y1, by omega⟩ : Fin 2048) f))
    (fun f => Cert.Reference3Ideal.Read.val_main_v25 (F := Ideal) (ix2 (⟨(t : ℕ) % 2 * 1024 + y1, by omega⟩ : Fin 2048) f)) (fun k => (cos_block m c t y1 k).trans (cos_at m c _ k))
    (fun k => (sin_block m c t y1 k).trans (sin_at m c _ k))).trans (Eq.trans ?_ ((congrArg _ (?_ : _ = ix3 (⟨(t : ℕ) / 2, by omega⟩ : Fin 16)
    (⟨(t : ℕ) % 2 * 1024 + y1, by omega⟩ : Fin 2048) y2)).trans (Cert.Proj.Ref.queries _ _ _ _ _ _)).symm)
  · rw [show Cert.Proj.Pay.rowOf (iblk m c 0 t) (iblk m c 1 t) y1 = _ from row_eq m c t ht y1,
      show (fun k l => (iblk m c 2 t : Vec Ideal S1024x1024 .bf16) (ix2 k l)) = _ from funext fun k => funext fun l => wq_eq m c t k l]
  · blk_ext [idx t]

/-- The keys' array is the reference's, read over the argument arrays. -/
theorem final8 : (dats m 0 c).arrAt 8 cfg0.N
    = Cert.Reference3Ideal.Read.val_main_v80 (F := Ideal) (m ((c : Thread nD τ).loc main_arg0)) (m ((c : Thread nD τ).loc main_arg1))
        (m ((c : Thread nD τ).loc main_arg3)) := by
  refine (dats m 0 c).arrAt_eq_of_covers 8 _ (by decide +kernel) fun t _ y => ?_
  blk_simp
  rw [after0_8]
  idx_vars y
  obtain rfl : y0 = 0 := Subsingleton.elim _ _
  have ht : (t : ℕ) < 32 := t.isLt
  refine (Cert.Proj.Pay.block8 _ _ _ _ _ _ _ y1 y2
    (fun f => Cert.Reference3Ideal.Read.val_main_v24 (F := Ideal) (ix2 (⟨(t : ℕ) % 2 * 1024 + y1, by omega⟩ : Fin 2048) f))
    (fun f => Cert.Reference3Ideal.Read.val_main_v25 (F := Ideal) (ix2 (⟨(t : ℕ) % 2 * 1024 + y1, by omega⟩ : Fin 2048) f)) (fun k => (cos_block m c t y1 k).trans (cos_at m c _ k))
    (fun k => (sin_block m c t y1 k).trans (sin_at m c _ k))).trans (Eq.trans ?_ ((congrArg _ (?_ : _ = ix3 (⟨(t : ℕ) / 2, by omega⟩ : Fin 16)
    (⟨(t : ℕ) % 2 * 1024 + y1, by omega⟩ : Fin 2048) y2)).trans (Cert.Proj.Ref.keys _ _ _ _ _ _)).symm)
  · rw [show Cert.Proj.Pay.rowOf (iblk m c 0 t) (iblk m c 1 t) y1 = _ from row_eq m c t ht y1,
      show (fun k l => (iblk m c 3 t : Vec Ideal S1024x1024 .bf16) (ix2 k l)) = _ from funext fun k => funext fun l => wk_eq m c t k l]
  · blk_ext [idx t]

/-- The values' array is the reference's, read over the argument arrays. -/
theorem final9 : (dats m 0 c).arrAt 9 cfg0.N
    = Cert.Reference3Ideal.Read.val_main_v81 (F := Ideal) (m ((c : Thread nD τ).loc main_arg0)) (m ((c : Thread nD τ).loc main_arg1))
        (m ((c : Thread nD τ).loc main_arg4)) := by
  refine (dats m 0 c).arrAt_eq_of_covers 9 _ (by decide +kernel) fun t _ y => ?_
  blk_simp
  rw [after0_9]
  idx_vars y
  obtain rfl : y0 = 0 := Subsingleton.elim _ _
  have ht : (t : ℕ) < 32 := t.isLt
  refine (Cert.Proj.Pay.block9 _ _ _ _ _ _ _ y1 y2).trans (Eq.trans ?_ ((congrArg _ (?_ : _ = ix3 (⟨(t : ℕ) / 2, by omega⟩ : Fin 16)
    (⟨(t : ℕ) % 2 * 1024 + y1, by omega⟩ : Fin 2048) y2)).trans (Cert.Proj.Ref.values _ _ _ _ _ _)).symm)
  · rw [row_eq m c t ht y1, show (fun k l => (iblk m c 4 t : Vec Ideal S1024x1024 .bf16) (ix2 k l)) = _ from funext fun k => funext fun l => wv_eq m c t k l]
  · blk_ext [idx t]

end Cert.Kernel3Ideal.Value

end
-- ==== Proof.ProjTwin.lean ====
module

public import proofs.«01_k».proof.Defs
public import proofs.«01_k».proof.Proof.Gen.Kernel3
public import proofs.«01_k».proof.Proof.Gen.Kernel3Ideal.Frame

@[expose] public section

set_option maxRecDepth 16384

/-! The projection's kernel on the machine's floats has the same text as its idealization: one run serves both frames. -/

noncomputable section

namespace Cert.Kernel3.Twin

open Idealize.ShloMosaic Idealize.SL.Sem

/-- The two body tables agree, label by label. -/
theorem bodies : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl

/-- So do the tables with the pipelines added. -/
theorem tables : Cert.Kernel3.defs (F := Bits) = Cert.Kernel3Ideal.defs (F := Bits) :=
  congrArg (Pipeline.defs (Cert.Kernel3Ideal.pcfgs (F := Bits))) bodies

set_option maxHeartbeats 2000000 in
/-- The kernel runs, leaves its arguments as they were, and every semaphore at zero. -/
theorem frame : Cert.quiescent_Kernel3 := fun m ρ _ => by
  rw [tables]
  exact Cert.Kernel3Ideal.Gen.frame (F := Bits) m ρ

end Cert.Kernel3.Twin

end
-- ==== Proof.ZeroSpec.lean ====
module

public import proofs.«01_k».proof.Proof.PostSpec

@[expose] public section

set_option maxRecDepth 16384

/-! The two orders of layer 0's sixteen heads of 64 lanes: the kernel's, by group and then key head, and the reference's, by key
head and then group. -/

noncomputable section

namespace Cert.Post

open Idealize.ShloMosaic

/-- From a lane in the kernel's order to the lane in the reference's order. -/
def toRef (k : Fin 1024) : Fin 1024 := ⟨(k : ℕ) / 64 % 2 * 512 + (k : ℕ) / 128 * 64 + (k : ℕ) % 64, by omega⟩

/-- And back. -/
def ofRef (k : Fin 1024) : Fin 1024 := ⟨(k : ℕ) / 64 % 8 * 128 + (k : ℕ) / 512 * 64 + (k : ℕ) % 64, by omega⟩

/-- The two together, as a permutation of the lanes. -/
def order : Fin 1024 ≃ Fin 1024 := ⟨toRef, ofRef, by unfold Function.LeftInverse; decide +kernel, by unfold Function.RightInverse Function.LeftInverse; decide +kernel⟩

/-- Projecting the heads in the kernel's order through the reordered weights is projecting them in the reference's order. -/
theorem project_order (a : Fin 1024 → EReal) (w : Fin 1024 → Fin 1024 → EReal) :
    project a (fun k l => w (order k) l) = project (fun k => a (order.symm k)) w :=
  funext fun j => Fintype.sum_equiv order _ _ fun k => by
    show _ = a (order.symm (order k)) * _
    rw [Equiv.symm_apply_apply]

/-- The whole row, with the heads in the one order and in the other. -/
theorem row_order (a x gate1 shift2 scale2 gate2 g1 b1 g2 b2 : Fin 1024 → EReal) (w : Fin 1024 → Fin 1024 → EReal)
    (w1 : Fin 1024 → Fin 4096 → EReal) (w2 : Fin 4096 → Fin 1024 → EReal) :
    row a x gate1 shift2 scale2 gate2 g1 b1 g2 b2 (fun k l => w (order k) l) w1 w2
      = row (fun k => a (order.symm k)) x gate1 shift2 scale2 gate2 g1 b1 g2 b2 w w1 w2 := by
  unfold row mid
  rw [project_order]

end Cert.Post

end
-- ==== Proof.ZeroRef.lean ====
module

public import proofs.«01_k».proof.Proof.PostRef
public import proofs.«01_k».proof.Proof.ZeroSpec
public import proofs.«01_k».proof.Proof.Gen.Reference4Ideal.Read

@[expose] public section

set_option maxRecDepth 16384

/-! The reference of layer 0's last block is the one of layer 1's on the heads in the reference's order and on the arrays of
parameters with their layer 0 put in the place of layer 1. -/

noncomputable section

namespace Cert.Post.Zero

open Idealize.ShloMosaic Idealize.ShloMosaic.StableHlo
open Cert.Reference4Ideal Cert.Reference4Ideal.Gen Cert.Reference4Ideal.Read

/-- A pair of rows with the first in both places. -/
def twice (x : FVec Ideal S2x1024 .f32) : FVec Ideal S2x1024 .f32 := fun i => x (ix2 0 (i 1))

/-- A pair of matrices with the first in both places. -/
def twice₁ (x : FVec Ideal S2x1024x4096 .f32) : FVec Ideal S2x1024x4096 .f32 := fun i => x (ix3 0 (i 1) (i 2))

/-- The same, for the second matrix of the MLP. -/
def twice₂ (x : FVec Ideal S2x4096x1024 .f32) : FVec Ideal S2x4096x1024 .f32 := fun i => x (ix3 0 (i 1) (i 2))

variable (x0 x1 : FVec Ideal S16x2048x1024 .f32) (x2 : FVec Ideal S16x6144 .f32) (x3 : FVec Ideal S1x1024x1024 .f32)
  (x4 x5 x6 x7 : FVec Ideal S2x1024 .f32) (x8 : FVec Ideal S2x1024x4096 .f32) (x9 : FVec Ideal S2x4096x1024 .f32)

/-- The gain of the first norm. -/
theorem v39 : Cert.Reference2Ideal.Read.val_main_v36 (F := Ideal) (twice x4) = val_main_v39 (F := Ideal) x4 := by
  funext i
  idx_vars i
  pointwise [Cert.Reference2Ideal.Read.val_main_v36, Cert.Reference2Ideal.Read.val_main_v15, Cert.Reference2Ideal.Read.val_main_v14,
    val_main_v39, val_main_v18, val_main_v17, twice]

/-- The bias of the first norm. -/
theorem v42 : Cert.Reference2Ideal.Read.val_main_v39 (F := Ideal) (twice x5) = val_main_v42 (F := Ideal) x5 := by
  funext i
  idx_vars i
  pointwise [Cert.Reference2Ideal.Read.val_main_v39, Cert.Reference2Ideal.Read.val_main_v17, Cert.Reference2Ideal.Read.val_main_v16,
    val_main_v42, val_main_v20, val_main_v19, twice]

/-- The gain of the second norm. -/
theorem v86 : Cert.Reference2Ideal.Read.val_main_v83 (F := Ideal) (twice x6) = val_main_v86 (F := Ideal) x6 := by
  funext i
  idx_vars i
  pointwise [Cert.Reference2Ideal.Read.val_main_v83, Cert.Reference2Ideal.Read.val_main_v62, Cert.Reference2Ideal.Read.val_main_v61,
    val_main_v86, val_main_v65, val_main_v64, twice]

/-- The bias of the second norm. -/
theorem v89 : Cert.Reference2Ideal.Read.val_main_v86 (F := Ideal) (twice x7) = val_main_v89 (F := Ideal) x7 := by
  funext i
  idx_vars i
  pointwise [Cert.Reference2Ideal.Read.val_main_v86, Cert.Reference2Ideal.Read.val_main_v64, Cert.Reference2Ideal.Read.val_main_v63,
    val_main_v89, val_main_v67, val_main_v66, twice]

/-- The MLP's first weights. -/
theorem v52 : Cert.Reference2Ideal.Read.val_main_v49 (F := Ideal) (twice₁ x8) = val_main_v52 (F := Ideal) x8 := by
  funext i
  idx_vars i
  pointwise [Cert.Reference2Ideal.Read.val_main_v49, Cert.Reference2Ideal.Read.val_main_v48,
    val_main_v52, val_main_v51, twice₁]

/-- The MLP's second weights. -/
theorem v54 : Cert.Reference2Ideal.Read.val_main_v51 (F := Ideal) (twice₂ x9) = val_main_v54 (F := Ideal) x9 := by
  funext i
  idx_vars i
  pointwise [Cert.Reference2Ideal.Read.val_main_v51, Cert.Reference2Ideal.Read.val_main_v50,
    val_main_v54, val_main_v53, twice₂]

/-- The first norm, short of its gain. -/
theorem v38 : val_main_v38 (F := Ideal) x0 x1 x2 x3 = Cert.Reference2Ideal.Read.val_main_v35 (F := Ideal) (val_main_v9 (F := Ideal) x0) x1 x2 x3 := rfl

/-- The first norm. -/
theorem v44 : val_main_v44 (F := Ideal) x0 x1 x2 x3 x4 x5
    = Cert.Reference2Ideal.Read.val_main_v41 (F := Ideal) (val_main_v9 (F := Ideal) x0) x1 x2 x3 (twice x4) (twice x5) := by
  unfold val_main_v44 val_main_v41 val_main_v40 val_main_v43
  rw [v38, ← v39, ← v42]
  rfl

/-- The MLP's argument. -/
theorem v50 : val_main_v50 (F := Ideal) x0 x1 x2 x3 x4 x5
    = Cert.Reference2Ideal.Read.val_main_v47 (F := Ideal) (val_main_v9 (F := Ideal) x0) x1 x2 x3 (twice x4) (twice x5) := by
  unfold val_main_v50 val_main_v48
  rw [v44]
  rfl

/-- The MLP. -/
theorem v58 : val_main_v58 (F := Ideal) x0 x1 x2 x3 x4 x5 x8 x9
    = Cert.Reference2Ideal.Read.val_main_v55 (F := Ideal) (val_main_v9 (F := Ideal) x0) x1 x2 x3 (twice x4) (twice x5) (twice₁ x8) (twice₂ x9) := by
  unfold val_main_v58 val_main_v57 val_main_v56 val_main_v55
  rw [v50, ← v52, ← v54]
  rfl

/-- The second norm's argument. -/
theorem v63 : val_main_v63 (F := Ideal) x0 x1 x2 x3 x4 x5 x8 x9
    = Cert.Reference2Ideal.Read.val_main_v60 (F := Ideal) (val_main_v9 (F := Ideal) x0) x1 x2 x3 (twice x4) (twice x5) (twice₁ x8) (twice₂ x9) := by
  unfold val_main_v63 val_main_v60 val_main_v62
  rw [v44, v58]
  rfl

/-- The second norm, short of its gain. -/
theorem v85 : val_main_v85 (F := Ideal) x0 x1 x2 x3 x4 x5 x8 x9
    = Cert.Reference2Ideal.Read.val_main_v82 (F := Ideal) (val_main_v9 (F := Ideal) x0) x1 x2 x3 (twice x4) (twice x5) (twice₁ x8) (twice₂ x9) := by
  unfold val_main_v85 val_main_v84 val_main_v83 val_main_v82 val_main_v80 val_main_v79 val_main_v78 val_main_v76 val_main_v75 val_main_v74 val_main_v73
    val_main_v72 val_main_v71 val_main_v69 val_main_v68
  rw [v63]
  rfl

/-- The reference's result. -/
theorem v91 : val_main_v91 (F := Ideal) x0 x1 x2 x3 x4 x5 x6 x7 x8 x9
    = Cert.Reference2Ideal.Read.val_main_v88 (F := Ideal) (val_main_v9 (F := Ideal) x0) x1 x2 x3 (twice x4) (twice x5) (twice x6) (twice x7) (twice₁ x8) (twice₂ x9) := by
  unfold val_main_v91 val_main_v88 val_main_v87 val_main_v90
  rw [v85, ← v86, ← v89]
  rfl

/-- The heads in the reference's order. -/
theorem v9 (b : Fin 16) (r : Fin 2048) : (fun k => val_main_v9 (F := Ideal) x0 (ix3 b r k)) = fun k => x0 (ix3 b r (order.symm k)) := by
  funext k
  pointwise [val_main_v9, val_main_v8, val_main_v7]
  rfl

/-- The reference at an index is the row function of the arguments' rows. -/
theorem ref_eq (b : Fin 16) (r : Fin 2048) (j : Fin 1024) : val_main_v91 (F := Ideal) x0 x1 x2 x3 x4 x5 x6 x7 x8 x9 (ix3 b r j)
    = row (fun k => x0 (ix3 b r (order.symm k))) (fun k => x1 (ix3 b r k)) (fun k => x2 (ix2 b ⟨2048 + k, by omega⟩))
        (fun k => x2 (ix2 b ⟨3072 + k, by omega⟩)) (fun k => x2 (ix2 b ⟨4096 + k, by omega⟩)) (fun k => x2 (ix2 b ⟨5120 + k, by omega⟩))
        (fun k => x4 (ix2 0 k)) (fun k => x5 (ix2 0 k)) (fun k => x6 (ix2 0 k)) (fun k => x7 (ix2 0 k))
        (fun k l => x3 (ix3 0 k l)) (fun d u => x8 (ix3 0 d u)) (fun u d => x9 (ix3 0 u d)) j := by
  rw [v91, Cert.Post.Ref.ref_eq, v9]
  rfl

end Cert.Post.Zero

end
-- ==== Proof.ZeroVal.lean ====
module

public import proofs.«01_k».proof.Proof.PostBlock
public import proofs.«01_k».proof.Proof.ZeroRef
public import proofs.«01_k».proof.Proof.Gen.Kernel4Ideal.Value
public import Idealize.ShloMosaic.Lib.Pipeline.ValueKit
public import Idealize.ShloMosaic.Lib.StableHlo.RunRead
public import Idealize.ShloMosaic.Lib.Claim

@[expose] public section

set_option maxRecDepth 16384

/-! The output array of layer 0's last block as the reference's result over the argument arrays. -/

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen

/-- One grid point computes what layer 1's does. -/
theorem same : out0_7 (F := Ideal) = Cert.Kernel2Ideal.Gen.out0_7 (F := Ideal) := rfl

/-- Where each window's block lies at grid point `t`: batch `t / 4`, row tile `t % 4`, the weights whole. -/
theorem idx : ∀ t : Fin cfg0.N, win0_0.index t = ![(t : ℕ) / 4, (t : ℕ) % 4, 0] ∧ win0_1.index t = ![(t : ℕ) / 4, (t : ℕ) % 4, 0]
    ∧ win0_2.index t = ![(t : ℕ) / 4, 0, 0] ∧ win0_3.index t = ![0, 0] ∧ win0_4.index t = ![0, 0] ∧ win0_5.index t = ![0, 0]
    ∧ win0_6.index t = ![0, 0] ∧ win0_7.index t = ![(t : ℕ) / 4, (t : ℕ) % 4, 0] :=
  (by decide +kernel : ∀ t : Fin grid0.N, _)

variable (m : (ℓ : Loc nD τ sig) → Buf (Elt Ideal) ℓ) (c : Dev nD)

/-- The stack of the norms' gains and biases, as the concatenation of the four rows the host has cut out before it. -/
theorem ln_stack : V m c main_v12 = concatenate S4x1024 0
    [⟨S1x1024, (StableHlo.after (hostOps0.take 12) (fun b => m (c, b)) main_v8 : Vec Ideal S1x1024 .f32)⟩,
     ⟨S1x1024, (StableHlo.after (hostOps0.take 12) (fun b => m (c, b)) main_v9 : Vec Ideal S1x1024 .f32)⟩,
     ⟨S1x1024, (StableHlo.after (hostOps0.take 12) (fun b => m (c, b)) main_v10 : Vec Ideal S1x1024 .f32)⟩,
     ⟨S1x1024, (StableHlo.after (hostOps0.take 12) (fun b => m (c, b)) main_v11 : Vec Ideal S1x1024 .f32)⟩]
    concatenates_S1x1024_S1x1024_S1x1024_S1x1024_S4x1024_d0 := by
  refine (StableHlo.after_last_write (i := 12) [main_v13, main_v14, main_v15, main_v16, main_v17, main_v18, main_v19, main_v20, main_v21, main_v22,
    main_v23, main_v24, main_v25] rfl rfl (by decide) _).trans ?_
  exact StableHlo.nary4_result _ _ _ _

/-- The rows of the stack: gain and bias of the first norm, gain and bias of the second. -/
theorem ln_rows (k : Fin 1024) : (V m c main_v12 : Vec Ideal S4x1024 .f32) (ix2 0 k) = m ((c : Thread nD τ).loc main_arg4) (ix2 0 k)
    ∧ (V m c main_v12 : Vec Ideal S4x1024 .f32) (ix2 1 k) = m ((c : Thread nD τ).loc main_arg5) (ix2 0 k)
    ∧ (V m c main_v12 : Vec Ideal S4x1024 .f32) (ix2 2 k) = m ((c : Thread nD τ).loc main_arg6) (ix2 0 k)
    ∧ (V m c main_v12 : Vec Ideal S4x1024 .f32) (ix2 3 k) = m ((c : Thread nD τ).loc main_arg7) (ix2 0 k) := by
  rw [ln_stack]
  refine ⟨?_, ?_, ?_, ?_⟩ <;>
  · pointwise
    simp only [hostOps0, List.take_succ_cons, List.take_zero]
    entry_read
    pointwise

/-- The output projection's weights, in the kernel's order of the heads. -/
theorem wo_eq (t : Fin cfg0.N) (k l : Fin 1024) : (iblk m c 3 t : Vec Ideal S1024x1024 .bf16) (ix2 k l)
    = m ((c : Thread nD τ).loc main_arg3) (ix3 0 (Cert.Post.order k) l) := by
  blk_point [iblk, V, idx t]
  rfl

/-- The output array is the reference's result, read over the argument arrays. -/
theorem final : (dats m 0 c).arrAt 7 cfg0.N
    = Cert.Reference4Ideal.Read.val_main_v91 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 7 _ (by decide +kernel) fun t _ y => ?_
  blk_simp
  rw [after0_7, same]
  idx_vars y
  obtain rfl : y0 = 0 := Subsingleton.elim _ _
  have ht : (t : ℕ) < 64 := t.isLt
  refine (Cert.Post.Pay.block _ _ _ _ _ _ _ y1 y2).trans (Eq.trans ?_ ((congrArg _ (?_ : _ = ix3 (⟨(t : ℕ) / 4, by omega⟩ : Fin 16)
    (⟨(t : ℕ) % 4 * 512 + y1, by omega⟩ : Fin 2048) y2)).trans (Cert.Post.Zero.ref_eq _ _ _ _ _ _ _ _ _ _ _ _ _)).symm)
  · rw [← Cert.Post.row_order (fun k => (m ((c : Thread nD τ).loc main_arg0) : Vec Ideal S16x2048x1024 .f32)
      (ix3 (⟨(t : ℕ) / 4, by omega⟩ : Fin 16) (⟨(t : ℕ) % 4 * 512 + y1, by omega⟩ : Fin 2048) k))]
    have hln : ∀ (a : Fin 4) (k : Fin 1024), (iblk m c 6 t : Vec Ideal S4x1024 .f32) (ix2 a k) = (V m c main_v12 : Vec Ideal S4x1024 .f32) (ix2 a k) := by
      intro a k
      blk_ext [iblk, idx t]
    congr 1 <;> funext k
    · blk_point [iblk, V, idx t]
    · blk_point [iblk, V, idx t]
    · blk_point [iblk, V, idx t]
    · blk_point [iblk, V, idx t]
    · blk_point [iblk, V, idx t]
    · blk_point [iblk, V, idx t]
    · exact (hln 0 k).trans (ln_rows m c k).1
    · exact (hln 1 k).trans (ln_rows m c k).2.1
    · exact (hln 2 k).trans (ln_rows m c k).2.2.1
    · exact (hln 3 k).trans (ln_rows m c k).2.2.2
    · exact funext fun l => wo_eq m c t k l
    all_goals (funext l; blk_point [iblk, V, idx t])
  · blk_ext [idx t]

end Cert.Kernel4Ideal.Value

end
-- ==== Proof.ZeroTwin.lean ====
module

public import proofs.«01_k».proof.Defs
public import proofs.«01_k».proof.Proof.Gen.Kernel4
public import proofs.«01_k».proof.Proof.Gen.Kernel4Ideal.Frame

@[expose] public section

set_option maxRecDepth 16384

/-! Layer 0's last block's kernel on the machine's floats has the same text as its idealization: one run serves both frames. -/

noncomputable section

namespace Cert.Kernel4.Twin

open Idealize.ShloMosaic Idealize.SL.Sem

/-- The two body tables agree, label by label. -/
theorem bodies : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl

/-- So do the tables with the pipelines added. -/
theorem tables : Cert.Kernel4.defs (F := Bits) = Cert.Kernel4Ideal.defs (F := Bits) :=
  congrArg (Pipeline.defs (Cert.Kernel4Ideal.pcfgs (F := Bits))) bodies

/-- The kernel runs, leaves its arguments as they were, and every semaphore at zero. -/
theorem frame : Cert.quiescent_Kernel4 := fun m ρ _ => by
  rw [tables]
  exact Cert.Kernel4Ideal.Gen.frame (F := Bits) m ρ

end Cert.Kernel4.Twin

end
-- ==== Proof.CtxRef.lean ====
module

public import proofs.«01_k».proof.Proof.ZeroSpec
public import proofs.«01_k».proof.Proof.Gen.Reference5Ideal.Read

@[expose] public section

set_option maxRecDepth 16384

/-! The reference of the context's last block, read at an index: it is the row function of `PostSpec`, under one modulation. -/

noncomputable section

namespace Cert.Post.Ctx

open Idealize.ShloMosaic Idealize.ShloMosaic.StableHlo
open Cert.Reference5Ideal Cert.Reference5Ideal.Gen Cert.Reference5Ideal.Read

variable (x0 x1 : FVec Ideal S16x256x1024 .f32) (x2 : FVec Ideal S6144 .f32) (x3 : FVec Ideal S1x1024x1024 .f32)
  (x4 x5 x6 x7 : FVec Ideal S2x1024 .f32) (x8 : FVec Ideal S2x1024x4096 .f32) (x9 : FVec Ideal S2x4096x1024 .f32)
  (b : Fin 16) (r : Fin 256) (j : Fin 1024)

/-- The heads in the reference's order. -/
theorem v8 : val_main_v8 (F := Ideal) x0 (ix3 b r j) = x0 (ix3 b r (order.symm j)) := by
  pointwise [val_main_v8, val_main_v7, val_main_v6]
  rfl

/-- The first LayerNorm's argument. -/
theorem v16 : val_main_v16 (F := Ideal) x0 x1 x2 x3 (ix3 b r j)
    = residual (fun k => x1 (ix3 b r k)) (fun k => x2 (ix1 ⟨2048 + k, by omega⟩))
        (project (fun k => x0 (ix3 b r (order.symm k))) (fun k l => x3 (ix3 0 k l))) j := by
  rw [show (fun k => x0 (ix3 b r (order.symm k))) = fun k => val_main_v8 (F := Ideal) x0 (ix3 b r k) from funext fun k => (v8 x0 b r k).symm]
  unfold val_main_v16 val_main_v15 val_main_v10
  generalize val_main_v8 (F := Ideal) x0 = u
  pointwise [val_main_v14, val_main_v13, val_main_v12, val_main_v11, val_main_cst, val_main_v9, val_main_v2, residual, project]

/-- The first LayerNorm's argument, centred. -/
theorem v33 : val_main_v33 (F := Ideal) x0 x1 x2 x3 (ix3 b r j)
    = centre (fun k => val_main_v16 (F := Ideal) x0 x1 x2 x3 (ix3 b r k)) j := by
  pointwise [val_main_v33, val_main_v32, val_main_v24, val_main_v23, val_main_cst_1, val_main_v22, val_main_v21, val_main_cst_0,
    centre, mean]

/-- The first LayerNorm, of its centred argument. -/
theorem v44 : val_main_v44 (F := Ideal) x0 x1 x2 x3 x4 x5 (ix3 b r j)
    = rescale (fun k => val_main_v33 (F := Ideal) x0 x1 x2 x3 (ix3 b r k)) (fun k => x4 (ix2 0 k)) (fun k => x5 (ix2 0 k)) j := by
  have h : val_main_v26 (F := Ideal) x0 x1 x2 x3 = val_main_v33 (F := Ideal) x0 x1 x2 x3 := rfl
  pointwise [val_main_v44, val_main_v43, val_main_v42, val_main_v41, val_main_v40, val_main_v39, val_main_v38, val_main_v37,
    val_main_v36, val_main_v35, val_main_v34, val_main_cst_4, val_main_v31, val_main_v30, val_main_cst_3, val_main_v29,
    val_main_v28, val_main_cst_2, val_main_v27, h, val_main_v20, val_main_v19, val_main_v18, val_main_v17, rescale, mean]

/-- The MLP's argument: the modulated row. -/
theorem v52 : val_main_v52 (F := Ideal) x0 x1 x2 x3 x4 x5 (ix3 b r j)
    = modulate (fun k => val_main_v44 (F := Ideal) x0 x1 x2 x3 x4 x5 (ix3 b r k)) (fun k => x2 (ix1 ⟨4096 + k, by omega⟩))
        (fun k => x2 (ix1 ⟨3072 + k, by omega⟩)) j := by
  pointwise [val_main_v52, val_main_v51, val_main_v50, val_main_v49, val_main_v48, val_main_v47, val_main_v46, val_main_v45, val_main_cst_5,
    val_main_v4, val_main_v3, modulate]

/-- The MLP. -/
theorem v60 : val_main_v60 (F := Ideal) x0 x1 x2 x3 x4 x5 x8 x9 (ix3 b r j)
    = mlp (fun k => val_main_v52 (F := Ideal) x0 x1 x2 x3 x4 x5 (ix3 b r k)) (fun d (u : Fin 4096) => x8 (ix3 0 d u))
        (fun u d => x9 (ix3 0 u d)) j := by
  pointwise [val_main_v60, val_main_v59, val_main_v58, val_main_call0_v0, val_main_call0_cst, val_main_v57, val_main_v56, val_main_v55,
    val_main_v54, val_main_v53, mlp, unit]

/-- The second LayerNorm's argument. -/
theorem v66 : val_main_v66 (F := Ideal) x0 x1 x2 x3 x4 x5 x8 x9 (ix3 b r j)
    = residual (fun k => val_main_v44 (F := Ideal) x0 x1 x2 x3 x4 x5 (ix3 b r k)) (fun k => x2 (ix1 ⟨5120 + k, by omega⟩))
        (fun k => val_main_v60 (F := Ideal) x0 x1 x2 x3 x4 x5 x8 x9 (ix3 b r k)) j := by
  pointwise [val_main_v66, val_main_v65, val_main_v64, val_main_v63, val_main_v62, val_main_v61, val_main_cst_6, val_main_v5, residual]

/-- The second LayerNorm's argument, centred. -/
theorem v83 : val_main_v83 (F := Ideal) x0 x1 x2 x3 x4 x5 x8 x9 (ix3 b r j)
    = centre (fun k => val_main_v66 (F := Ideal) x0 x1 x2 x3 x4 x5 x8 x9 (ix3 b r k)) j := by
  pointwise [val_main_v83, val_main_v82, val_main_v74, val_main_v73, val_main_cst_8, val_main_v72, val_main_v71, val_main_cst_7,
    centre, mean]

/-- The second LayerNorm, of its centred argument. -/
theorem v94 : val_main_v94 (F := Ideal) x0 x1 x2 x3 x4 x5 x6 x7 x8 x9 (ix3 b r j)
    = rescale (fun k => val_main_v83 (F := Ideal) x0 x1 x2 x3 x4 x5 x8 x9 (ix3 b r k)) (fun k => x6 (ix2 0 k)) (fun k => x7 (ix2 0 k)) j := by
  have h : val_main_v76 (F := Ideal) x0 x1 x2 x3 x4 x5 x8 x9 = val_main_v83 (F := Ideal) x0 x1 x2 x3 x4 x5 x8 x9 := rfl
  pointwise [val_main_v94, val_main_v93, val_main_v92, val_main_v91, val_main_v90, val_main_v89, val_main_v88, val_main_v87,
    val_main_v86, val_main_v85, val_main_v84, val_main_cst_11, val_main_v81, val_main_v80, val_main_cst_10, val_main_v79,
    val_main_v78, val_main_cst_9, val_main_v77, h, val_main_v70, val_main_v69, val_main_v68, val_main_v67, rescale, mean]

/-- The reference before its last reshape, at an index: the row function of the arguments' rows. -/
theorem row_eq : val_main_v94 (F := Ideal) x0 x1 x2 x3 x4 x5 x6 x7 x8 x9 (ix3 b r j)
    = row (fun k => x0 (ix3 b r (order.symm k))) (fun k => x1 (ix3 b r k)) (fun k => x2 (ix1 ⟨2048 + k, by omega⟩))
        (fun k => x2 (ix1 ⟨3072 + k, by omega⟩)) (fun k => x2 (ix1 ⟨4096 + k, by omega⟩)) (fun k => x2 (ix1 ⟨5120 + k, by omega⟩))
        (fun k => x4 (ix2 0 k)) (fun k => x5 (ix2 0 k)) (fun k => x6 (ix2 0 k)) (fun k => x7 (ix2 0 k))
        (fun k l => x3 (ix3 0 k l)) (fun d u => x8 (ix3 0 d u)) (fun u d => x9 (ix3 0 u d)) j := by
  have hmid : (fun k => val_main_v44 (F := Ideal) x0 x1 x2 x3 x4 x5 (ix3 b r k))
      = mid (fun k => x0 (ix3 b r (order.symm k))) (fun k => x1 (ix3 b r k)) (fun k => x2 (ix1 ⟨2048 + k, by omega⟩))
        (fun k => x4 (ix2 0 k)) (fun k => x5 (ix2 0 k)) (fun k l => x3 (ix3 0 k l)) := by
    funext k; rw [v44]; simp only [v33, v16]; rfl
  rw [v94]
  simp only [v83, v66, v60, v52, hmid]
  rfl

/-- The reference's result at an index: row `R` of the flat array is row `R % 256` of batch `R / 256`. -/
theorem ref_eq (R : Fin 4096) : val_main_v95 (F := Ideal) x0 x1 x2 x3 x4 x5 x6 x7 x8 x9 (ix3 0 R j)
    = row (fun k => x0 (ix3 ⟨(R : ℕ) / 256, by omega⟩ ⟨(R : ℕ) % 256, by omega⟩ (order.symm k)))
        (fun k => x1 (ix3 ⟨(R : ℕ) / 256, by omega⟩ ⟨(R : ℕ) % 256, by omega⟩ k)) (fun k => x2 (ix1 ⟨2048 + k, by omega⟩))
        (fun k => x2 (ix1 ⟨3072 + k, by omega⟩)) (fun k => x2 (ix1 ⟨4096 + k, by omega⟩)) (fun k => x2 (ix1 ⟨5120 + k, by omega⟩))
        (fun k => x4 (ix2 0 k)) (fun k => x5 (ix2 0 k)) (fun k => x6 (ix2 0 k)) (fun k => x7 (ix2 0 k))
        (fun k l => x3 (ix3 0 k l)) (fun d u => x8 (ix3 0 d u)) (fun u d => x9 (ix3 0 u d)) j := by
  rw [← row_eq]
  unfold val_main_v95
  generalize val_main_v94 (F := Ideal) x0 x1 x2 x3 x4 x5 x6 x7 x8 x9 = u
  pointwise

end Cert.Post.Ctx

end
-- ==== Proof.CtxVal.lean ====
module

public import proofs.«01_k».proof.Proof.PostBlock
public import proofs.«01_k».proof.Proof.CtxRef
public import proofs.«01_k».proof.Proof.Gen.Kernel5Ideal.Value
public import Idealize.ShloMosaic.Lib.Pipeline.ValueKit
public import Idealize.ShloMosaic.Lib.StableHlo.RunRead
public import Idealize.ShloMosaic.Lib.Claim

@[expose] public section

set_option maxRecDepth 16384

/-! The output array of the context's last block as the reference's result over the argument arrays. -/

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen

/-- One grid point computes what layer 1's does. -/
theorem same : out0_7 (F := Ideal) = Cert.Kernel2Ideal.Gen.out0_7 (F := Ideal) := rfl

/-- Where each window's block lies at grid point `t`: row tile `t` of the one batch, the modulation and the weights whole. -/
theorem idx : ∀ t : Fin cfg0.N, win0_0.index t = ![0, (t : ℕ), 0] ∧ win0_1.index t = ![0, (t : ℕ), 0]
    ∧ win0_2.index t = ![0, 0, 0] ∧ win0_3.index t = ![0, 0] ∧ win0_4.index t = ![0, 0] ∧ win0_5.index t = ![0, 0]
    ∧ win0_6.index t = ![0, 0] ∧ win0_7.index t = ![0, (t : ℕ), 0] :=
  (by decide +kernel : ∀ t : Fin grid0.N, _)

variable (m : (ℓ : Loc nD τ sig) → Buf (Elt Ideal) ℓ) (c : Dev nD)

/-- The stack of the norms' gains and biases, as the concatenation of the four rows the host has cut out before it. -/
theorem ln_stack : V m c main_v12 = concatenate S4x1024 0
    [⟨S1x1024, (StableHlo.after (hostOps0.take 12) (fun b => m (c, b)) main_v8 : Vec Ideal S1x1024 .f32)⟩,
     ⟨S1x1024, (StableHlo.after (hostOps0.take 12) (fun b => m (c, b)) main_v9 : Vec Ideal S1x1024 .f32)⟩,
     ⟨S1x1024, (StableHlo.after (hostOps0.take 12) (fun b => m (c, b)) main_v10 : Vec Ideal S1x1024 .f32)⟩,
     ⟨S1x1024, (StableHlo.after (hostOps0.take 12) (fun b => m (c, b)) main_v11 : Vec Ideal S1x1024 .f32)⟩]
    concatenates_S1x1024_S1x1024_S1x1024_S1x1024_S4x1024_d0 := by
  refine (StableHlo.after_last_write (i := 12) [main_v13, main_v14, main_v15, main_v16, main_v17, main_v18, main_v19, main_v20, main_v21, main_v22,
    main_v23, main_v24, main_v25, main_v26, main_v27] rfl rfl (by decide) _).trans ?_
  exact StableHlo.nary4_result _ _ _ _

/-- The rows of the stack: gain and bias of the first norm, gain and bias of the second. -/
theorem ln_rows (k : Fin 1024) : (V m c main_v12 : Vec Ideal S4x1024 .f32) (ix2 0 k) = m ((c : Thread nD τ).loc main_arg4) (ix2 0 k)
    ∧ (V m c main_v12 : Vec Ideal S4x1024 .f32) (ix2 1 k) = m ((c : Thread nD τ).loc main_arg5) (ix2 0 k)
    ∧ (V m c main_v12 : Vec Ideal S4x1024 .f32) (ix2 2 k) = m ((c : Thread nD τ).loc main_arg6) (ix2 0 k)
    ∧ (V m c main_v12 : Vec Ideal S4x1024 .f32) (ix2 3 k) = m ((c : Thread nD τ).loc main_arg7) (ix2 0 k) := by
  rw [ln_stack]
  refine ⟨?_, ?_, ?_, ?_⟩ <;>
  · pointwise
    simp only [hostOps0, List.take_succ_cons, List.take_zero]
    entry_read
    pointwise

/-- The output projection's weights, in the kernel's order of the heads. -/
theorem wo_eq (t : Fin cfg0.N) (k l : Fin 1024) : (iblk m c 3 t : Vec Ideal S1024x1024 .bf16) (ix2 k l)
    = m ((c : Thread nD τ).loc main_arg3) (ix3 0 (Cert.Post.order k) l) := by
  blk_point [iblk, V, idx t]
  rfl

/-- The output array is the reference's result, read over the argument arrays. -/
theorem final : (dats m 0 c).arrAt 7 cfg0.N
    = Cert.Reference5Ideal.Read.val_main_v95 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 7 _ (by decide +kernel) fun t _ y => ?_
  blk_simp
  rw [after0_7, same]
  idx_vars y
  obtain rfl : y0 = 0 := Subsingleton.elim _ _
  have ht : (t : ℕ) < 8 := t.isLt
  refine (Cert.Post.Pay.block _ _ _ _ _ _ _ y1 y2).trans (Eq.trans ?_ ((congrArg _ (?_ : _ = ix3 (0 : Fin 1)
    (⟨(t : ℕ) * 512 + y1, by omega⟩ : Fin 4096) y2)).trans (Cert.Post.Ctx.ref_eq _ _ _ _ _ _ _ _ _ _ _ _)).symm)
  · rw [← Cert.Post.row_order (fun k => (m ((c : Thread nD τ).loc main_arg0) : Vec Ideal S16x256x1024 .f32)
      (ix3 (⟨((t : ℕ) * 512 + y1) / 256, by omega⟩ : Fin 16) (⟨((t : ℕ) * 512 + y1) % 256, by omega⟩ : Fin 256) k))]
    have hln : ∀ (a : Fin 4) (k : Fin 1024), (iblk m c 6 t : Vec Ideal S4x1024 .f32) (ix2 a k) = (V m c main_v12 : Vec Ideal S4x1024 .f32) (ix2 a k) := by
      intro a k
      blk_ext [iblk, idx t]
    congr 1 <;> funext k
    · blk_point [iblk, V, idx t]
    · blk_point [iblk, V, idx t]
    · blk_point [iblk, V, idx t]
    · blk_point [iblk, V, idx t]
    · blk_point [iblk, V, idx t]
    · blk_point [iblk, V, idx t]
    · exact (hln 0 k).trans (ln_rows m c k).1
    · exact (hln 1 k).trans (ln_rows m c k).2.1
    · exact (hln 2 k).trans (ln_rows m c k).2.2.1
    · exact (hln 3 k).trans (ln_rows m c k).2.2.2
    · exact funext fun l => wo_eq m c t k l
    all_goals (funext l; blk_point [iblk, V, idx t])
  · blk_ext [idx t]

end Cert.Kernel5Ideal.Value

end
-- ==== Proof.CtxTwin.lean ====
module

public import proofs.«01_k».proof.Defs
public import proofs.«01_k».proof.Proof.Gen.Kernel5
public import proofs.«01_k».proof.Proof.Gen.Kernel5Ideal.Frame

@[expose] public section

set_option maxRecDepth 16384

/-! The context's last block's kernel on the machine's floats has the same text as its idealization: one run serves both frames. -/

noncomputable section

namespace Cert.Kernel5.Twin

open Idealize.ShloMosaic Idealize.SL.Sem

/-- The two body tables agree, label by label. -/
theorem bodies : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) => rfl

/-- So do the tables with the pipelines added. -/
theorem tables : Cert.Kernel5.defs (F := Bits) = Cert.Kernel5Ideal.defs (F := Bits) :=
  congrArg (Pipeline.defs (Cert.Kernel5Ideal.pcfgs (F := Bits))) bodies

/-- The kernel runs, leaves its arguments as they were, and every semaphore at zero. -/
theorem frame : Cert.quiescent_Kernel5 := fun m ρ _ => by
  rw [tables]
  exact Cert.Kernel5Ideal.Gen.frame (F := Bits) m ρ

end Cert.Kernel5.Twin

end
-- ==== Proof.FirstSpec.lean ====
module

public import proofs.«01_k».proof.Proof.ProjSpec
public import proofs.«01_k».proof.Proof.ZeroSpec

@[expose] public section

set_option maxRecDepth 16384

/-! Layer 0's queries: the rotation of heads that come in another order. -/

noncomputable section

namespace Cert.Proj

open Idealize.ShloMosaic

/-- The order of the heads keeps a lane's place in its head, so rotating the reordered row is reordering the rotated row. -/
theorem rotate_order (y : Fin 1024 → EReal) (cs sn : Fin 32 → EReal) (l : Fin 1024) :
    rotate rfl (fun k => y (Cert.Post.order k)) cs sn l = rotate rfl y cs sn (Cert.Post.order l) := by
  have e : ((Cert.Post.order l : Fin 1024) : ℕ) = (l : ℕ) / 64 % 2 * 512 + (l : ℕ) / 128 * 64 + (l : ℕ) % 64 := rfl
  have ef : (⟨(l : ℕ) % 32, by omega⟩ : Fin 32) = ⟨((Cert.Post.order l : Fin 1024) : ℕ) % 32, by omega⟩ := Fin.ext (by show (l : ℕ) % 32 = _ % 32; omega)
  have hl := l.isLt
  unfold rotate
  by_cases h : (l : ℕ) % 64 < 32
  · have q6 : ((l : ℕ) + 32) / 64 = l / 64 := by omega
    have q7 : ((l : ℕ) + 32) / 128 = l / 128 := by omega
    have q8 : ((l : ℕ) + 32) % 64 = l % 64 + 32 := by omega
    have eu : Cert.Post.order ⟨(l : ℕ) + 32, by omega⟩ = ⟨((Cert.Post.order l : Fin 1024) : ℕ) + 32, by omega⟩ :=
      Fin.ext (by show ((l : ℕ) + 32) / 64 % 2 * 512 + ((l : ℕ) + 32) / 128 * 64 + ((l : ℕ) + 32) % 64 = ((Cert.Post.order l : Fin 1024) : ℕ) + 32; rw [q6, q7, q8, e]; omega)
    rw [dif_pos h, dif_pos (by omega), ef]
    beta_reduce
    rw [eu]
  · have q6 : ((l : ℕ) - 32) / 64 = l / 64 := by omega
    have q7 : ((l : ℕ) - 32) / 128 = l / 128 := by omega
    have q8 : ((l : ℕ) - 32) % 64 = l % 64 - 32 := by omega
    have ed : Cert.Post.order ⟨(l : ℕ) - 32, by omega⟩ = ⟨((Cert.Post.order l : Fin 1024) : ℕ) - 32, by omega⟩ :=
      Fin.ext (by show ((l : ℕ) - 32) / 64 % 2 * 512 + ((l : ℕ) - 32) / 128 * 64 + ((l : ℕ) - 32) % 64 = ((Cert.Post.order l : Fin 1024) : ℕ) - 32; rw [q6, q7, q8, e]; omega)
    rw [dif_neg h, dif_neg (by omega), ef]
    beta_reduce
    rw [ed]

/-- The rotation of a lane `o`, from the lane `j` that holds it in the other order. -/
theorem rotate_parts (y : Fin 1024 → EReal) (cs sn : Fin 32 → EReal) (j o : Fin 1024)
    (e : (o : ℕ) = (j : ℕ) / 64 % 2 * 512 + (j : ℕ) / 128 * 64 + (j : ℕ) % 64) :
    (if h : (j : ℕ) % 64 < 32 then
        y ⟨(j : ℕ) / 64 % 2 * 512 + (j : ℕ) / 128 * 64 + (j : ℕ) % 64, by omega⟩ * cs ⟨(j : ℕ) % 64, by omega⟩
          - y ⟨(j : ℕ) / 64 % 2 * 512 + (j : ℕ) / 128 * 64 + (32 + (j : ℕ) % 64), by omega⟩ * sn ⟨(j : ℕ) % 64, by omega⟩
      else y ⟨(j : ℕ) / 64 % 2 * 512 + (j : ℕ) / 128 * 64 + ((j : ℕ) % 64 - 32), by omega⟩ * sn ⟨(j : ℕ) % 64 - 32, by omega⟩
          + y ⟨(j : ℕ) / 64 % 2 * 512 + (j : ℕ) / 128 * 64 + (32 + ((j : ℕ) % 64 - 32)), by omega⟩ * cs ⟨(j : ℕ) % 64 - 32, by omega⟩)
      = rotate rfl y cs sn o := by
  unfold rotate
  by_cases h : (j : ℕ) % 64 < 32
  · have h' : (o : ℕ) % 64 < 32 := by omega
    rw [dif_pos h, dif_pos h']
    congr 3 <;> exact Fin.ext (by dsimp only; omega)
  · have h' : ¬ (o : ℕ) % 64 < 32 := by omega
    rw [dif_neg h, dif_neg h']
    congr 3 <;> exact Fin.ext (by dsimp only; omega)

/-- The rotated products with the reordered weights are the rotated products, reordered. -/
theorem rotate_times_order (a : Fin 1024 → EReal) (w : Fin 1024 → Fin 1024 → EReal) (cs sn : Fin 32 → EReal) (l : Fin 1024) :
    rotate rfl (times a fun k j => w k (Cert.Post.order j)) cs sn l = rotate rfl (times a w) cs sn (Cert.Post.order l) :=
  rotate_order (times a w) cs sn l

/-- The scale of the scores, as the literal that the layer multiplies the queries by. -/
def scale : EReal := Ideal.ofBits .f32 0x3E38AA3B#32

end Cert.Proj

end
-- ==== Proof.FirstBlock.lean ====
module

public import proofs.«01_k».proof.Proof.ProjBlock
public import proofs.«01_k».proof.Proof.FirstSpec
public import proofs.«01_k».proof.Proof.Gen.Kernel6Ideal.Value
public import Idealize.ShloMosaic.Lib.Pipeline.ValueKit

@[expose] public section

set_option maxRecDepth 16384

/-! What one grid point of layer 0's projection leaves in its three output blocks. -/

noncomputable section

namespace Cert.Proj.First

open Idealize.ShloMosaic
open Cert.Kernel6Ideal Cert.Kernel6Ideal.Gen

/-- A function applied to every stored value is the function applied to what is left. -/
theorem canon_map {s : Shape} {e : EltTy} (f : Elt Ideal e → Elt Ideal e) (y : s.Idx) : ∀ L : List (View.Piece (Elt Ideal) s e), (∃ p ∈ L, y ∈ p.1.set) →
    View.canon (L.map fun p => ⟨p.1, fun i => f (p.2 i)⟩) y = f (View.canon L y)
  | [], h => absurd h (by simp)
  | p :: L, h => by
    by_cases hy : y ∈ p.1.set
    · obtain ⟨x, hx⟩ := p.1.exists_idx_of_mem hy
      rw [← hx]
      exact (View.canon_cons_emb p.1 (fun i => f (p.2 i)) _ x).trans (congrArg f (View.canon_cons_emb p.1 p.2 L x).symm)
    · refine ((View.canon_cons_of_not_mem (⟨p.1, fun i => f (p.2 i)⟩ : View.Piece (Elt Ideal) s e) _ hy).trans ?_).trans
        (congrArg f (View.canon_cons_of_not_mem p L hy).symm)
      refine canon_map f y L ?_
      obtain ⟨q, hq, hm⟩ := h
      rcases List.mem_cons.mp hq with rfl | hq
      · exact absurd hm hy
      · exact ⟨q, hq, hm⟩

variable (x0 : Vec Ideal S1x1024x1024 .f32) (x1 : Vec Ideal S1x1x6144 .f32) (x2 : Vec Ideal S1024x1024 .bf16) (x3 x4 : Vec Ideal S1024x128 .bf16)
  (x5 x6 : Vec Ideal S1024x128 .f32)

/-- The queries' block: layer 1's, scaled. -/
theorem scaled7 (y : S1x1024x1024.Idx) : out0_7 (F := Ideal) x0 x1 x2 x3 x4 x5 x6 y
    = Cert.Kernel3Ideal.Gen.out0_7 (F := Ideal) x0 x1 x2 x2 x2 x5 x6 y * scale := by
  unfold Cert.Kernel3Ideal.Gen.out0_7
  rw [← canon_map (e := .bf16) (fun v => v * scale) y _ (Cert.Kernel3Ideal.Gen.cover0_7 _ _ _ _ _ _ _ _ y)]
  rfl

/-- The queries' block at a row and a lane. -/
theorem block7 (r j : Fin 1024) (C S : Fin 32 → EReal)
    (hc : ∀ k : Fin 128, x5 (ix2 r k) = C ⟨(k : ℕ) % 32, by omega⟩)
    (hs : ∀ k : Fin 128, x6 (ix2 r k) = if (k : ℕ) % 64 < 32 then -S ⟨(k : ℕ) % 32, by omega⟩ else S ⟨(k : ℕ) % 32, by omega⟩) :
    out0_7 (F := Ideal) x0 x1 x2 x3 x4 x5 x6 (ix3 0 r j)
      = rotate rfl (times (Cert.Proj.Pay.rowOf x0 x1 r) (fun k l => x2 (ix2 k l))) C S j * scale := by
  rw [scaled7, show Cert.Kernel3Ideal.Gen.out0_7 (F := Ideal) x0 x1 x2 x2 x2 x5 x6 (ix3 0 r j) = _ from Cert.Proj.Pay.block7 x0 x1 x2 x2 x2 x5 x6 r j C S hc hs]

/-- The product of a tile of rows with the narrow weights. -/
def product (h : FVec Ideal S1024x1024 .bf16) (w : Vec Ideal S1024x128 .bf16) : FVec Ideal S1024x128 .f32 :=
  matmul (F := Ideal) dot_S1024x1024_S1024x128_S1024x128_1_0_0_1_n_n none h (shapeCast S1024x128 w shapeCasts_S1024x128_S1024x128 : FVec Ideal S1024x128 .bf16)
    (constant S1024x128 .f32 0x00000000#32)

/-- The product at an index. -/
theorem product_apply (h : FVec Ideal S1024x1024 .bf16) (w : Vec Ideal S1024x128 .bf16) (r : Fin 1024) (j : Fin 128) :
    product h w (ix2 r j) = times (fun k => h (ix2 r k)) (fun k l => w (ix2 k l)) j := by
  pointwise! [product, times]

/-- The keys' stored values: a turned tile of products. -/
theorem keys_stored (cs sn : FVec Ideal S1024x128 .f32) (h : FVec Ideal S1024x1024 .bf16) (w : Vec Ideal S1024x128 .bf16) (r : Fin 1024) (j : Fin 128) :
    k0_pay1 (F := Ideal) (k0_pay25 (F := Ideal) h cs sn k0_pay6 w) (ix3 0 r j) = Cert.Proj.Pay.tile cs sn (product h w) (ix2 r j) := by
  rw [show k0_pay25 (F := Ideal) h cs sn k0_pay6 w = Cert.Proj.Pay.tile cs sn (product h w) from rfl]
  generalize Cert.Proj.Pay.tile cs sn (product h w) = u
  pointwise [k0_pay1]

/-- A turned tile of 128 lanes is a rotated row. -/
theorem tile_narrow (cs sn y : FVec Ideal S1024x128 .f32) (r : Fin 1024) (l : Fin 128) (Y : Fin 128 → EReal) (C S : Fin 32 → EReal)
    (hy : ∀ k : Fin 128, y (ix2 r k) = Y k) (hc : ∀ k : Fin 128, cs (ix2 r k) = C ⟨(k : ℕ) % 32, by omega⟩)
    (hs : ∀ k : Fin 128, sn (ix2 r k) = if (k : ℕ) % 64 < 32 then -S ⟨(k : ℕ) % 32, by omega⟩ else S ⟨(k : ℕ) % 32, by omega⟩) :
    Cert.Proj.Pay.tile cs sn y (ix2 r l) = rotate rfl Y C S l := by
  rw [Cert.Proj.Pay.tile_apply, hy l]
  refine rotate_signed rfl Y C S _ _ _ _ (hc l) (hs l) ?_
  by_cases h : (l : ℕ) % 64 < 32
  · rw [dif_pos h, dif_pos h, hy]
  · rw [dif_neg h, dif_neg h, hy]

/-- The modulated tile, in terms of the input blocks. -/
theorem mod_eq (r : Fin 1024) : (fun k => k0_pay26 (F := Ideal) x0 x1 x2 x3 x4 x5 x6 (ix2 r k)) = Cert.Proj.Pay.rowOf x0 x1 r :=
  Cert.Proj.Pay.mod_eq x0 x1 x2 x2 x2 x5 x6 r

/-- The keys' block at a row and a lane. -/
theorem block8 (r : Fin 1024) (j : Fin 128) (C S : Fin 32 → EReal)
    (hc : ∀ k : Fin 128, x5 (ix2 r k) = C ⟨(k : ℕ) % 32, by omega⟩)
    (hs : ∀ k : Fin 128, x6 (ix2 r k) = if (k : ℕ) % 64 < 32 then -S ⟨(k : ℕ) % 32, by omega⟩ else S ⟨(k : ℕ) % 32, by omega⟩) :
    out0_8 (F := Ideal) x0 x1 x2 x3 x4 x5 x6 (ix3 0 r j)
      = rotate rfl (times (Cert.Proj.Pay.rowOf x0 x1 r) (fun k l => x3 (ix2 k l))) C S j := by
  have hy : ∀ k : Fin 128, product (k0_pay26 (F := Ideal) x0 x1 x2 x3 x4 x5 x6) (View.ld x3 r0_3) (ix2 r k)
      = times (Cert.Proj.Pay.rowOf x0 x1 r) (fun k l => x3 (ix2 k l)) k := fun k => by
    rw [product_apply, mod_eq]
    refine congrArg (fun u => times (Cert.Proj.Pay.rowOf x0 x1 r) u k) (funext fun k => funext fun l => ?_)
    pointwise
  have hcos := fun k => (show k0_pay27 (F := Ideal) x0 x1 x2 x3 x4 x5 x6 (ix2 r k) = x5 (ix2 r k) from Cert.Proj.Pay.cos_eq x0 x1 x2 x2 x2 x5 x6 r k).trans (hc k)
  have hsin := fun k => (show k0_pay28 (F := Ideal) x0 x1 x2 x3 x4 x5 x6 (ix2 r k) = x6 (ix2 r k) from Cert.Proj.Pay.sin_eq x0 x1 x2 x2 x2 x5 x6 r k).trans (hs k)
  rw [← tile_narrow _ _ _ r j _ C S hy hcos hsin, ← keys_stored]
  unfold out0_8 k0_pay29
  generalize k0_pay26 (F := Ideal) x0 x1 x2 x3 x4 x5 x6 = a
  generalize k0_pay27 (F := Ideal) x0 x1 x2 x3 x4 x5 x6 = b
  generalize k0_pay28 (F := Ideal) x0 x1 x2 x3 x4 x5 x6 = d
  generalize k0_pay25 (F := Ideal) a b d k0_pay6 (View.ld x3 r0_3) = u
  frame_out

/-- The values' block at a row and a lane. -/
theorem block9 (r : Fin 1024) (j : Fin 128) : out0_9 (F := Ideal) x0 x1 x2 x3 x4 x5 x6 (ix3 0 r j)
    = times (Cert.Proj.Pay.rowOf x0 x1 r) (fun k l => x4 (ix2 k l)) j := by
  rw [← mod_eq x0 x1 x2 x3 x4 x5 x6]
  unfold out0_9
  frame_out
  generalize k0_pay26 x0 x1 x2 x3 x4 x5 x6 = u
  pointwise! [k0_pay2, times]

end Cert.Proj.First

end
-- ==== Proof.FirstRef.lean ====
module

public import proofs.«01_k».proof.Proof.ProjRef
public import proofs.«01_k».proof.Proof.FirstSpec
public import proofs.«01_k».proof.Proof.Gen.Reference6Ideal.Read

@[expose] public section

set_option maxRecDepth 16384

/-! The reference of layer 0's projections, read at an index. -/

noncomputable section

namespace Cert.Proj.First.Ref

open Idealize.ShloMosaic Idealize.ShloMosaic.StableHlo
open Cert.Reference6Ideal Cert.Reference6Ideal.Gen Cert.Reference6Ideal.Read

/-- The queries' rotation as the reference writes it, with the heads put in the kernel's order and scaled. -/
def turnQ (p : FVec Ideal S16x2048x1024 .f32) (cs sn : FVec Ideal S2048x32 .f32) : FVec Ideal S16x2048x1024 .f32 :=
  let y : FVec Ideal S16x2048x2x8x64 .f32 := shapeCast _ p shapeCasts_S16x2048x1024_S16x2048x2x8x64
  let lo : FVec Ideal S16x2048x2x8x32 .f32 := extractStridedSlice S16x2048x2x8x32 ![0, 0, 0, 0, 0] y slices_S16x2048x2x8x64_S16x2048x2x8x32_0_0_0_0_0
  let hi : FVec Ideal S16x2048x2x8x32 .f32 := extractStridedSlice S16x2048x2x8x32 ![0, 0, 0, 0, 32] y slices_S16x2048x2x8x64_S16x2048x2x8x32_0_0_0_0_32
  let c : FVec Ideal S16x2048x2x8x32 .f32 := broadcastInDim S16x2048x2x8x32 ![0, 1, 2, 3, 4] bcast_S1x2048x1x1x32_S16x2048x2x8x32_0_1_2_3_4
    (shapeCast _ cs shapeCasts_S2048x32_S1x2048x1x1x32 : FVec Ideal S1x2048x1x1x32 .f32)
  let s : FVec Ideal S16x2048x2x8x32 .f32 := broadcastInDim S16x2048x2x8x32 ![0, 1, 2, 3, 4] bcast_S1x2048x1x1x32_S16x2048x2x8x32_0_1_2_3_4
    (shapeCast _ sn shapeCasts_S2048x32_S1x2048x1x1x32 : FVec Ideal S1x2048x1x1x32 .f32)
  let z : FVec Ideal S16x2048x2x8x64 .f32 := concatenate S16x2048x2x8x64 4 [⟨S16x2048x2x8x32, subf (mulf lo c) (mulf hi s)⟩, ⟨S16x2048x2x8x32, addf (mulf lo s) (mulf hi c)⟩]
    concatenates_S16x2048x2x8x32_S16x2048x2x8x32_S16x2048x2x8x64_d4
  mulf (shapeCast _ (transpose S16x2048x8x2x64 [0, 1, 3, 2, 4] z transposes_S16x2048x2x8x64_S16x2048x8x2x64_0_1_3_2_4 : FVec Ideal S16x2048x8x2x64 .f32)
    shapeCasts_S16x2048x8x2x64_S16x2048x1024) (broadcastInDim S16x2048x1024 ![] bcast_S_S16x2048x1024 (constant S_ .f32 0x3E38AA3B#32 : FVec Ideal S_ .f32))

/-- The keys' rotation as the reference writes it. -/
def turnK (p : FVec Ideal S16x2048x128 .f32) (cs sn : FVec Ideal S2048x32 .f32) : FVec Ideal S16x2048x128 .f32 :=
  let y : FVec Ideal S16x2048x2x64 .f32 := shapeCast _ p shapeCasts_S16x2048x128_S16x2048x2x64
  let lo : FVec Ideal S16x2048x2x32 .f32 := extractStridedSlice S16x2048x2x32 ![0, 0, 0, 0] y slices_S16x2048x2x64_S16x2048x2x32_0_0_0_0
  let hi : FVec Ideal S16x2048x2x32 .f32 := extractStridedSlice S16x2048x2x32 ![0, 0, 0, 32] y slices_S16x2048x2x64_S16x2048x2x32_0_0_0_32
  let c : FVec Ideal S16x2048x2x32 .f32 := broadcastInDim S16x2048x2x32 ![0, 1, 2, 3] bcast_S1x2048x1x32_S16x2048x2x32_0_1_2_3
    (shapeCast _ cs shapeCasts_S2048x32_S1x2048x1x32 : FVec Ideal S1x2048x1x32 .f32)
  let s : FVec Ideal S16x2048x2x32 .f32 := broadcastInDim S16x2048x2x32 ![0, 1, 2, 3] bcast_S1x2048x1x32_S16x2048x2x32_0_1_2_3
    (shapeCast _ sn shapeCasts_S2048x32_S1x2048x1x32 : FVec Ideal S1x2048x1x32 .f32)
  shapeCast _ (concatenate S16x2048x2x64 3 [⟨S16x2048x2x32, subf (mulf lo c) (mulf hi s)⟩, ⟨S16x2048x2x32, addf (mulf lo s) (mulf hi c)⟩]
    concatenates_S16x2048x2x32_S16x2048x2x32_S16x2048x2x64_d3) shapeCasts_S16x2048x2x64_S16x2048x128

variable (x0 : FVec Ideal S16x2048x1024 .f32) (x1 : FVec Ideal S16x6144 .f32) (w : FVec Ideal S1x1024x1024 .f32) (v : FVec Ideal S1x1024x128 .f32)

/-- The queries are rotated so. -/
theorem v80 : val_main_v80 (F := Ideal) x0 x1 w = turnQ (val_main_v40 (F := Ideal) x0 x1 w) (val_main_v24 (F := Ideal)) (val_main_v25 (F := Ideal)) := rfl

/-- And the keys so. -/
theorem v82 : val_main_v82 (F := Ideal) x0 x1 v = turnK (val_main_v58 (F := Ideal) x0 x1 v) (val_main_v24 (F := Ideal)) (val_main_v25 (F := Ideal)) := rfl

/-- The cosines are layer 1's. -/
theorem v24 : val_main_v24 (F := Ideal) = Cert.Reference3Ideal.Read.val_main_v24 (F := Ideal) := rfl

/-- The sines are layer 1's. -/
theorem v25 : val_main_v25 (F := Ideal) = Cert.Reference3Ideal.Read.val_main_v25 (F := Ideal) := rfl

/-- The modulated activations are layer 1's. -/
theorem v38 : val_main_v38 (F := Ideal) x0 x1 = Cert.Reference3Ideal.Read.val_main_v38 (F := Ideal) x0 x1 := rfl

/-- The queries' product is layer 1's. -/
theorem v40 : val_main_v40 (F := Ideal) x0 x1 w = Cert.Reference3Ideal.Read.val_main_v40 (F := Ideal) x0 x1 w := by
  unfold val_main_v40 Cert.Reference3Ideal.Read.val_main_v40
  rw [v38]
  rfl

/-- The product with the narrow weights, at an index. -/
theorem v58 (b : Fin 16) (r : Fin 2048) (j : Fin 128) :
    val_main_v58 (F := Ideal) x0 x1 v (ix3 b r j) = times (Cert.Proj.Ref.rowOf x0 x1 b r) (fun k l => v (ix3 0 k l)) j := by
  have h : (fun k => val_main_v38 (F := Ideal) x0 x1 (ix3 b r k)) = Cert.Proj.Ref.rowOf x0 x1 b r := funext fun k => by
    rw [v38]
    exact Cert.Proj.Ref.v38 x0 x1 b r k
  rw [← h]
  unfold val_main_v58
  generalize val_main_v38 (F := Ideal) x0 x1 = u
  pointwise [val_main_v57, times]

/-- The values' product is the same function of its weights as the keys'. -/
theorem v76 : val_main_v76 (F := Ideal) x0 x1 v = val_main_v58 (F := Ideal) x0 x1 v := by
  unfold val_main_v76 val_main_v58 val_main_v75 val_main_v57
  rfl

/-- The keys' rotation at an index. -/
theorem turnK_apply (p : FVec Ideal S16x2048x128 .f32) (cs sn : FVec Ideal S2048x32 .f32) (b : Fin 16) (r : Fin 2048) (j : Fin 128) :
    turnK p cs sn (ix3 b r j) = rotate rfl (fun k => p (ix3 b r k)) (fun f => cs (ix2 r f)) (fun f => sn (ix2 r f)) j := by
  pointwise [turnK]
  unfold rotate
  by_cases h : (j : ℕ) % 64 < 32
  · have ec : (⟨(j : ℕ) % 64, by omega⟩ : Fin 32) = ⟨(j : ℕ) % 32, by omega⟩ := Fin.ext (show (j : ℕ) % 64 = j % 32 by omega)
    have ej : (⟨(j : ℕ) / 64 * 64 + (32 + (j : ℕ) % 64), by omega⟩ : Fin 128) = ⟨j + 32, by omega⟩ :=
      Fin.ext (show (j : ℕ) / 64 * 64 + (32 + (j : ℕ) % 64) = j + 32 by omega)
    rw [dif_pos h, dif_pos h]
    exact congrArg₂ HSub.hSub (congrArg₂ HMul.hMul rfl (congrArg (fun f => cs (ix2 r f)) ec))
      (congrArg₂ HMul.hMul (congrArg (fun k => p (ix3 b r k)) ej) (congrArg (fun f => sn (ix2 r f)) ec))
  · have ec : (⟨(j : ℕ) % 64 - 32, by omega⟩ : Fin 32) = ⟨(j : ℕ) % 32, by omega⟩ := Fin.ext (show (j : ℕ) % 64 - 32 = j % 32 by omega)
    have ei : (⟨(j : ℕ) / 64 * 64 + ((j : ℕ) % 64 - 32), by omega⟩ : Fin 128) = ⟨j - 32, by omega⟩ :=
      Fin.ext (show (j : ℕ) / 64 * 64 + ((j : ℕ) % 64 - 32) = j - 32 by omega)
    have ej : (⟨(j : ℕ) / 64 * 64 + (32 + ((j : ℕ) % 64 - 32)), by omega⟩ : Fin 128) = j :=
      Fin.ext (show (j : ℕ) / 64 * 64 + (32 + ((j : ℕ) % 64 - 32)) = j by omega)
    rw [dif_neg h, dif_neg h]
    exact congrArg₂ HAdd.hAdd (congrArg₂ HMul.hMul (congrArg (fun k => p (ix3 b r k)) ei) (congrArg (fun f => sn (ix2 r f)) ec))
      (congrArg₂ HMul.hMul (congrArg (fun k => p (ix3 b r k)) ej) (congrArg (fun f => cs (ix2 r f)) ec))

/-- The queries' rotation at an index. -/
theorem turnQ_apply (p : FVec Ideal S16x2048x1024 .f32) (cs sn : FVec Ideal S2048x32 .f32) (b : Fin 16) (r : Fin 2048) (j : Fin 1024) :
    turnQ p cs sn (ix3 b r j) = rotate rfl (fun k => p (ix3 b r k)) (fun f => cs (ix2 r f)) (fun f => sn (ix2 r f)) (Cert.Post.order j) * scale := by
  pointwise [turnQ]
  exact congrArg (· * scale) (rotate_parts (fun k => p (ix3 b r k)) (fun f => cs (ix2 r f)) (fun f => sn (ix2 r f)) j (Cert.Post.order j) rfl)

/-- The queries at an index. -/
theorem queries (b : Fin 16) (r : Fin 2048) (j : Fin 1024) :
    val_main_v81 (F := Ideal) x0 x1 w (ix3 b r j) = rotate rfl (times (Cert.Proj.Ref.rowOf x0 x1 b r) (fun k l => w (ix3 0 k l)))
      (fun f => Cert.Reference3Ideal.Read.val_main_v24 (F := Ideal) (ix2 r f)) (fun f => Cert.Reference3Ideal.Read.val_main_v25 (F := Ideal) (ix2 r f))
      (Cert.Post.order j) * scale := by
  refine ((val_main_v81_apply (F := Ideal) x0 x1 w (ix3 b r j)).trans (Cert.Proj.Ref.narrowed _)).trans ?_
  rw [v80, turnQ_apply, v40, v24, v25]
  exact congrArg (fun y => rotate rfl y (fun f => Cert.Reference3Ideal.Read.val_main_v24 (F := Ideal) (ix2 r f))
    (fun f => Cert.Reference3Ideal.Read.val_main_v25 (F := Ideal) (ix2 r f)) (Cert.Post.order j) * scale) (funext (Cert.Proj.Ref.v40 x0 x1 w b r))

/-- The keys at an index. -/
theorem keys (b : Fin 16) (r : Fin 2048) (j : Fin 128) :
    val_main_v83 (F := Ideal) x0 x1 v (ix3 b r j) = rotate rfl (times (Cert.Proj.Ref.rowOf x0 x1 b r) (fun k l => v (ix3 0 k l)))
      (fun f => Cert.Reference3Ideal.Read.val_main_v24 (F := Ideal) (ix2 r f)) (fun f => Cert.Reference3Ideal.Read.val_main_v25 (F := Ideal) (ix2 r f)) j := by
  refine ((val_main_v83_apply (F := Ideal) x0 x1 v (ix3 b r j)).trans (Cert.Proj.Ref.narrowed _)).trans ?_
  rw [v82, turnK_apply, v24, v25]
  exact congrArg (fun y => rotate rfl y (fun f => Cert.Reference3Ideal.Read.val_main_v24 (F := Ideal) (ix2 r f))
    (fun f => Cert.Reference3Ideal.Read.val_main_v25 (F := Ideal) (ix2 r f)) j) (funext (v58 x0 x1 v b r))

/-- The values at an index. -/
theorem values (b : Fin 16) (r : Fin 2048) (j : Fin 128) :
    val_main_v84 (F := Ideal) x0 x1 v (ix3 b r j) = times (Cert.Proj.Ref.rowOf x0 x1 b r) (fun k l => v (ix3 0 k l)) j := by
  rw [← v58 x0 x1 v b r j, ← v76]
  exact (val_main_v84_apply (F := Ideal) x0 x1 v (ix3 b r j)).trans (Cert.Proj.Ref.narrowed _)

end Cert.Proj.First.Ref

end
-- ==== Proof.FirstVal.lean ====
module

public import proofs.«01_k».proof.Proof.FirstBlock
public import proofs.«01_k».proof.Proof.FirstRef
public import proofs.«01_k».proof.Proof.ProjTab
public import Idealize.ShloMosaic.Lib.Pipeline.ValueKit

@[expose] public section

set_option maxRecDepth 16384

/-! Layer 0's projection's three output arrays as the reference's results over the argument arrays. -/

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen

/-- Where each window's block lies at grid point `t`: batch `t / 2`, row tile `t % 2`, the weights whole. -/
theorem idx : ∀ t : Fin cfg0.N, win0_0.index t = ![(t : ℕ) / 2, (t : ℕ) % 2, 0] ∧ win0_1.index t = ![(t : ℕ) / 2, 0, 0]
    ∧ win0_2.index t = ![0, 0] ∧ win0_3.index t = ![0, 0] ∧ win0_4.index t = ![0, 0] ∧ win0_5.index t = ![(t : ℕ) % 2, 0]
    ∧ win0_6.index t = ![(t : ℕ) % 2, 0] ∧ win0_7.index t = ![(t : ℕ) / 2, (t : ℕ) % 2, 0]
    ∧ win0_8.index t = ![(t : ℕ) / 2, (t : ℕ) % 2, 0] ∧ win0_9.index t = ![(t : ℕ) / 2, (t : ℕ) % 2, 0] :=
  (by decide +kernel : ∀ t : Fin grid0.N, _)

variable (m : (ℓ : Loc nD τ sig) → Buf (Elt Ideal) ℓ) (c : Dev nD)

/-- The table of cosines is laid out as layer 1's. -/
theorem cos_table : V m c main_v29 = Cert.Kernel3Ideal.Value.spread (Cert.Reference3Ideal.Read.val_main_v24 (F := Ideal)) := by
  entry_read
  rfl

/-- And the table of signed sines. -/
theorem sin_table : V m c main_v34 = Cert.Kernel3Ideal.Value.signed (Cert.Reference3Ideal.Read.val_main_v25 (F := Ideal)) := by
  entry_read
  rfl

/-- The modulated row of a block is the one of its batch. -/
theorem row_eq (t : Fin cfg0.N) (ht : (t : ℕ) < 32) (r : Fin 1024) : Cert.Proj.Pay.rowOf (iblk m c 0 t) (iblk m c 1 t) r
    = Cert.Proj.Ref.rowOf (m ((c : Thread nD τ).loc main_arg0)) (m ((c : Thread nD τ).loc main_arg1))
        (⟨(t : ℕ) / 2, by omega⟩ : Fin 16) (⟨(t : ℕ) % 2 * 1024 + r, by omega⟩ : Fin 2048) := by
  unfold Cert.Proj.Pay.rowOf Cert.Proj.Ref.rowOf
  congr 1 <;> funext k
  · blk_point [iblk, V, idx t]
  · blk_point [iblk, V, idx t]
  · blk_point [iblk, V, idx t]

/-- The queries' weights, in the kernel's order of the heads. -/
theorem wq_eq (t : Fin cfg0.N) (k l : Fin 1024) :
    (iblk m c 2 t : Vec Ideal S1024x1024 .bf16) (ix2 k l) = m ((c : Thread nD τ).loc main_arg2) (ix3 0 k (Cert.Post.order l)) := by
  blk_point [iblk, V, idx t]
  rfl

/-- The keys' weights. -/
theorem wk_eq (t : Fin cfg0.N) (k : Fin 1024) (l : Fin 128) :
    (iblk m c 3 t : Vec Ideal S1024x128 .bf16) (ix2 k l) = m ((c : Thread nD τ).loc main_arg3) (ix3 0 k l) := by
  blk_point [iblk, V, idx t]

/-- The values' weights. -/
theorem wv_eq (t : Fin cfg0.N) (k : Fin 1024) (l : Fin 128) :
    (iblk m c 4 t : Vec Ideal S1024x128 .bf16) (ix2 k l) = m ((c : Thread nD τ).loc main_arg4) (ix3 0 k l) := by
  blk_point [iblk, V, idx t]

/-- A block of the table of cosines. -/
theorem cos_block (t : Fin cfg0.N) (r : Fin 1024) (k : Fin 128) :
    (iblk m c 5 t : Vec Ideal S1024x128 .f32) (ix2 r k) = (V m c main_v29 : Vec Ideal S2048x128 .f32) (ix2 (⟨(t : ℕ) % 2 * 1024 + r, by omega⟩ : Fin 2048) k) := by
  blk_ext [iblk, idx t]

/-- A block of the table of signed sines. -/
theorem sin_block (t : Fin cfg0.N) (r : Fin 1024) (k : Fin 128) :
    (iblk m c 6 t : Vec Ideal S1024x128 .f32) (ix2 r k) = (V m c main_v34 : Vec Ideal S2048x128 .f32) (ix2 (⟨(t : ℕ) % 2 * 1024 + r, by omega⟩ : Fin 2048) k) := by
  blk_ext [iblk, idx t]

/-- The queries' array is the reference's, read over the argument arrays. -/
theorem final7 : (dats m 0 c).arrAt 7 cfg0.N
    = Cert.Reference6Ideal.Read.val_main_v81 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  idx_vars y
  obtain rfl : y0 = 0 := Subsingleton.elim _ _
  have ht : (t : ℕ) < 32 := t.isLt
  refine (Cert.Proj.First.block7 _ _ _ _ _ _ _ y1 y2
    (fun f => Cert.Reference3Ideal.Read.val_main_v24 (F := Ideal) (ix2 (⟨(t : ℕ) % 2 * 1024 + y1, by omega⟩ : Fin 2048) f))
    (fun f => Cert.Reference3Ideal.Read.val_main_v25 (F := Ideal) (ix2 (⟨(t : ℕ) % 2 * 1024 + y1, by omega⟩ : Fin 2048) f)) (fun k => (cos_block m c t y1 k).trans ((congrFun (cos_table m c) _).trans (Cert.Kernel3Ideal.Value.spread_at _ _ k)))
    (fun k => (sin_block m c t y1 k).trans ((congrFun (sin_table m c) _).trans (Cert.Kernel3Ideal.Value.signed_at _ _ k)))).trans (Eq.trans ?_ ((congrArg _ (?_ : _ = ix3 (⟨(t : ℕ) / 2, by omega⟩ : Fin 16)
    (⟨(t : ℕ) % 2 * 1024 + y1, by omega⟩ : Fin 2048) y2)).trans (Cert.Proj.First.Ref.queries _ _ _ _ _ _)).symm)
  · rw [show Cert.Proj.Pay.rowOf (iblk m c 0 t) (iblk m c 1 t) y1 = _ from row_eq m c t ht y1,
      show (fun k l => (iblk m c 2 t : Vec Ideal S1024x1024 .bf16) (ix2 k l)) = _ from funext fun k => funext fun l => wq_eq m c t k l]
    exact congrArg (· * Cert.Proj.scale) (Cert.Proj.rotate_times_order _ (fun k l => m ((c : Thread nD τ).loc main_arg2) (ix3 0 k l)) _ _ y2)
  · blk_ext [idx t]

/-- The keys' array is the reference's, read over the argument arrays. -/
theorem final8 : (dats m 0 c).arrAt 8 cfg0.N
    = Cert.Reference6Ideal.Read.val_main_v83 (F := Ideal) (m ((c : Thread nD τ).loc main_arg0)) (m ((c : Thread nD τ).loc main_arg1))
        (m ((c : Thread nD τ).loc main_arg3)) := by
  refine (dats m 0 c).arrAt_eq_of_covers 8 _ (by decide +kernel) fun t _ y => ?_
  blk_simp
  rw [after0_8]
  idx_vars y
  obtain rfl : y0 = 0 := Subsingleton.elim _ _
  have ht : (t : ℕ) < 32 := t.isLt
  refine (Cert.Proj.First.block8 _ _ _ _ _ _ _ y1 y2
    (fun f => Cert.Reference3Ideal.Read.val_main_v24 (F := Ideal) (ix2 (⟨(t : ℕ) % 2 * 1024 + y1, by omega⟩ : Fin 2048) f))
    (fun f => Cert.Reference3Ideal.Read.val_main_v25 (F := Ideal) (ix2 (⟨(t : ℕ) % 2 * 1024 + y1, by omega⟩ : Fin 2048) f)) (fun k => (cos_block m c t y1 k).trans ((congrFun (cos_table m c) _).trans (Cert.Kernel3Ideal.Value.spread_at _ _ k)))
    (fun k => (sin_block m c t y1 k).trans ((congrFun (sin_table m c) _).trans (Cert.Kernel3Ideal.Value.signed_at _ _ k)))).trans (Eq.trans ?_ ((congrArg _ (?_ : _ = ix3 (⟨(t : ℕ) / 2, by omega⟩ : Fin 16)
    (⟨(t : ℕ) % 2 * 1024 + y1, by omega⟩ : Fin 2048) y2)).trans (Cert.Proj.First.Ref.keys _ _ _ _ _ _)).symm)
  · rw [show Cert.Proj.Pay.rowOf (iblk m c 0 t) (iblk m c 1 t) y1 = _ from row_eq m c t ht y1,
      show (fun k l => (iblk m c 3 t : Vec Ideal S1024x128 .bf16) (ix2 k l)) = _ from funext fun k => funext fun l => wk_eq m c t k l]
  · blk_ext [idx t]

/-- The values' array is the reference's, read over the argument arrays. -/
theorem final9 : (dats m 0 c).arrAt 9 cfg0.N
    = Cert.Reference6Ideal.Read.val_main_v84 (F := Ideal) (m ((c : Thread nD τ).loc main_arg0)) (m ((c : Thread nD τ).loc main_arg1))
        (m ((c : Thread nD τ).loc main_arg4)) := by
  refine (dats m 0 c).arrAt_eq_of_covers 9 _ (by decide +kernel) fun t _ y => ?_
  blk_simp
  rw [after0_9]
  idx_vars y
  obtain rfl : y0 = 0 := Subsingleton.elim _ _
  have ht : (t : ℕ) < 32 := t.isLt
  refine (Cert.Proj.First.block9 _ _ _ _ _ _ _ y1 y2).trans (Eq.trans ?_ ((congrArg _ (?_ : _ = ix3 (⟨(t : ℕ) / 2, by omega⟩ : Fin 16)
    (⟨(t : ℕ) % 2 * 1024 + y1, by omega⟩ : Fin 2048) y2)).trans (Cert.Proj.First.Ref.values _ _ _ _ _ _)).symm)
  · rw [row_eq m c t ht y1, show (fun k l => (iblk m c 4 t : Vec Ideal S1024x128 .bf16) (ix2 k l)) = _ from funext fun k => funext fun l => wv_eq m c t k l]
  · blk_ext [idx t]

end Cert.Kernel6Ideal.Value

end
-- ==== Proof.FirstTwin.lean ====
module

public import proofs.«01_k».proof.Defs
public import proofs.«01_k».proof.Proof.Gen.Kernel6
public import proofs.«01_k».proof.Proof.Gen.Kernel6Ideal.Frame

@[expose] public section

set_option maxRecDepth 16384

/-! Layer 0's projection's kernel on the machine's floats has the same text as its idealization: one run serves both frames. -/

noncomputable section

namespace Cert.Kernel6.Twin

open Idealize.ShloMosaic Idealize.SL.Sem

/-- The two body tables agree, label by label. -/
theorem bodies : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | 0, (t, s) => rfl

/-- So do the tables with the pipelines added. -/
theorem tables : Cert.Kernel6.defs (F := Bits) = Cert.Kernel6Ideal.defs (F := Bits) :=
  congrArg (Pipeline.defs (Cert.Kernel6Ideal.pcfgs (F := Bits))) bodies

set_option maxHeartbeats 2000000 in
/-- The kernel runs, leaves its arguments as they were, and every semaphore at zero. -/
theorem frame : Cert.quiescent_Kernel6 := fun m ρ _ => by
  rw [tables]
  exact Cert.Kernel6Ideal.Gen.frame (F := Bits) m ρ

end Cert.Kernel6.Twin

end
-- ==== Proof.CtxProjBlock.lean ====
module

public import proofs.«01_k».proof.Proof.FirstSpec
public import proofs.«01_k».proof.Proof.Gen.Kernel7Ideal.Value
public import proofs.«01_k».proof.Proof.Gen.Kernel8Ideal.Value
public import Idealize.ShloMosaic.Lib.Pipeline.ValueKit

@[expose] public section

set_option maxRecDepth 16384

/-! What one grid point of the context's projections leaves in its output blocks, in both layers. -/

noncomputable section

namespace Cert.Proj.Ctx

open Idealize.ShloMosaic

/-- The modulated row of a block of the context. -/
def blockRow (x0 : Vec Ideal Cert.Kernel7Ideal.S1x512x1024 .f32) (x1 : Vec Ideal Cert.Kernel7Ideal.S1x1x6144 .f32) (r : Fin 512) : Fin 1024 → EReal :=
  Cert.Post.modulate (fun k => x0 (ix3 0 r k)) (fun k => x1 (ix3 0 0 ⟨1024 + k, by omega⟩)) (fun k => x1 (ix3 0 0 ⟨k, by omega⟩))

namespace Later

open Cert.Kernel7Ideal Cert.Kernel7Ideal.Gen

variable (x0 : Vec Ideal S1x512x1024 .f32) (x1 : Vec Ideal S1x1x6144 .f32) (x2 x3 : Vec Ideal S1024x1024 .bf16)

/-- The modulated tile, in terms of the input blocks. -/
theorem mod_eq (r : Fin 512) :
    (fun k => k0_pay1 (F := Ideal) (View.ld x1 r0_0) (View.ld x1 r0_1) (View.ld x0 r0_2) (ix2 r k)) = blockRow x0 x1 r := by
  funext j
  pointwise! [k0_pay1, blockRow, Cert.Post.modulate]

/-- The keys' block at a row and a lane. -/
theorem block4 (r : Fin 512) (j : Fin 1024) :
    out0_4 (F := Ideal) x0 x1 x2 x3 (ix3 0 r j) = times (blockRow x0 x1 r) (fun k l => x2 (ix2 k l)) j := by
  rw [← mod_eq x0 x1]
  unfold out0_4
  frame_out
  unfold k0_pay2
  generalize k0_pay1 (F := Ideal) (View.ld x1 r0_0) (View.ld x1 r0_1) (View.ld x0 r0_2) = u
  pointwise! [times]

/-- The values' block at a row and a lane. -/
theorem block5 (r : Fin 512) (j : Fin 1024) :
    out0_5 (F := Ideal) x0 x1 x2 x3 (ix3 0 r j) = times (blockRow x0 x1 r) (fun k l => x3 (ix2 k l)) j :=
  block4 x0 x1 x3 x3 r j

end Later

namespace Zero

open Cert.Kernel8Ideal Cert.Kernel8Ideal.Gen

variable (x0 : Vec Ideal S1x512x1024 .f32) (x1 : Vec Ideal S1x1x6144 .f32) (x2 : Vec Ideal S1024x1024 .bf16) (x3 x4 : Vec Ideal S1024x128 .bf16)

/-- The modulated tile, in terms of the input blocks. -/
theorem mod_eq (r : Fin 512) :
    (fun k => k0_pay2 (F := Ideal) (View.ld x1 r0_0) (View.ld x1 r0_1) (View.ld x0 r0_2) (ix2 r k)) = blockRow x0 x1 r :=
  Later.mod_eq x0 x1 r

/-- The queries' block at a row and a lane. -/
theorem block5 (r : Fin 512) (j : Fin 1024) :
    out0_5 (F := Ideal) x0 x1 x2 x3 x4 (ix3 0 r j) = times (blockRow x0 x1 r) (fun k l => x2 (ix2 k l)) j * scale := by
  rw [← mod_eq x0 x1]
  unfold out0_5
  frame_out
  unfold k0_pay3
  generalize k0_pay2 (F := Ideal) (View.ld x1 r0_0) (View.ld x1 r0_1) (View.ld x0 r0_2) = u
  pointwise! [times, scale]

/-- The keys' block at a row and a lane. -/
theorem block6 (r : Fin 512) (j : Fin 128) :
    out0_6 (F := Ideal) x0 x1 x2 x3 x4 (ix3 0 r j) = times (blockRow x0 x1 r) (fun k l => x3 (ix2 k l)) j := by
  rw [← mod_eq x0 x1]
  unfold out0_6
  frame_out
  unfold k0_pay4
  generalize k0_pay2 (F := Ideal) (View.ld x1 r0_0) (View.ld x1 r0_1) (View.ld x0 r0_2) = u
  pointwise! [times]

/-- The values' block is the keys' block of their own weights. -/
theorem block7 (r : Fin 512) (j : Fin 128) :
    out0_7 (F := Ideal) x0 x1 x2 x3 x4 (ix3 0 r j) = times (blockRow x0 x1 r) (fun k l => x4 (ix2 k l)) j :=
  block6 x0 x1 x2 x4 x4 r j

end Zero

end Cert.Proj.Ctx

end
-- ==== Proof.CtxProjRef.lean ====
module

public import proofs.«01_k».proof.Proof.FirstSpec
public import proofs.«01_k».proof.Proof.Gen.Reference7Ideal.Read
public import proofs.«01_k».proof.Proof.Gen.Reference8Ideal.Read

@[expose] public section

set_option maxRecDepth 16384

/-! The references of the context's projections, read at an index: row `R` of the flat arrays is row `R % 256` of batch `R / 256`. -/

noncomputable section

namespace Cert.Proj.Ctx

open Idealize.ShloMosaic

/-- The modulated row of a context. -/
def ctxRow (x0 : FVec Ideal Cert.Reference7Ideal.S16x256x1024 .f32) (x1 : FVec Ideal Cert.Reference7Ideal.S6144 .f32) (b : Fin 16) (r : Fin 256) :
    Fin 1024 → EReal :=
  Cert.Post.modulate (fun k => x0 (ix3 b r k)) (fun k => x1 (ix1 ⟨1024 + k, by omega⟩)) (fun k => x1 (ix1 ⟨k, by omega⟩))

namespace LaterRef

open Cert.Reference7Ideal Cert.Reference7Ideal.Gen Cert.Reference7Ideal.Read

variable (x0 : FVec Ideal S16x256x1024 .f32) (x1 : FVec Ideal S6144 .f32) (w : FVec Ideal S1x1024x1024 .f32)

/-- The modulated contexts. -/
theorem v13 (b : Fin 16) (r : Fin 256) (j : Fin 1024) : val_main_v13 (F := Ideal) x0 x1 (ix3 b r j) = ctxRow x0 x1 b r j := by
  pointwise! [val_main_v13, val_main_v12, val_main_v11, val_main_v10, val_main_v9, val_main_v8, val_main_v7, val_main_v6, val_main_cst, val_main_v1,
    val_main_v0, ctxRow, Cert.Post.modulate]

/-- The product of the modulated contexts with the keys' weights. -/
theorem v15 (b : Fin 16) (r : Fin 256) (j : Fin 1024) :
    val_main_v15 (F := Ideal) x0 x1 w (ix3 b r j) = times (ctxRow x0 x1 b r) (fun k l => w (ix3 0 k l)) j := by
  rw [← show (fun k => val_main_v13 (F := Ideal) x0 x1 (ix3 b r k)) = ctxRow x0 x1 b r from funext (v13 x0 x1 b r)]
  unfold val_main_v15
  generalize val_main_v13 (F := Ideal) x0 x1 = u
  pointwise [val_main_v14, times]

/-- The keys at an index. -/
theorem keys (R : Fin 4096) (j : Fin 1024) : val_main_v19 (F := Ideal) x0 x1 w (ix3 0 R j)
    = times (ctxRow x0 x1 ⟨(R : ℕ) / 256, by omega⟩ ⟨(R : ℕ) % 256, by omega⟩) (fun k l => w (ix3 0 k l)) j := by
  rw [← v15]
  unfold val_main_v19 val_main_v18
  generalize val_main_v15 (F := Ideal) x0 x1 w = u
  pointwise!

/-- The values are the same function of their weights. -/
theorem values_eq : val_main_v21 (F := Ideal) x0 x1 w = val_main_v19 (F := Ideal) x0 x1 w := rfl

end LaterRef

namespace ZeroRef

open Cert.Reference8Ideal Cert.Reference8Ideal.Gen Cert.Reference8Ideal.Read

variable (x0 : FVec Ideal S16x256x1024 .f32) (x1 : FVec Ideal S6144 .f32) (w : FVec Ideal S1x1024x1024 .f32) (v : FVec Ideal S1x1024x128 .f32)

/-- The modulated contexts are layer 1's. -/
theorem v13 : val_main_v13 (F := Ideal) x0 x1 = Cert.Reference7Ideal.Read.val_main_v13 (F := Ideal) x0 x1 := rfl

/-- So is the product with square weights. -/
theorem v15 : val_main_v15 (F := Ideal) x0 x1 w = Cert.Reference7Ideal.Read.val_main_v15 (F := Ideal) x0 x1 w := by
  unfold val_main_v15 Cert.Reference7Ideal.Read.val_main_v15
  rw [v13]
  rfl

/-- The product with the narrow weights. -/
theorem v22 (b : Fin 16) (r : Fin 256) (j : Fin 128) :
    val_main_v22 (F := Ideal) x0 x1 v (ix3 b r j) = times (ctxRow x0 x1 b r) (fun k l => v (ix3 0 k l)) j := by
  rw [← show (fun k => val_main_v13 (F := Ideal) x0 x1 (ix3 b r k)) = ctxRow x0 x1 b r from funext (LaterRef.v13 x0 x1 b r)]
  unfold val_main_v22
  generalize val_main_v13 (F := Ideal) x0 x1 = u
  pointwise [val_main_v21, times]

/-- The queries at an index, in terms of the lane that comes to `j`. -/
theorem queries_lane (u : FVec Ideal S16x256x1024 .f32) (hu : val_main_v15 (F := Ideal) x0 x1 w = u) (R : Fin 4096) (j o : Fin 1024)
    (e : (o : ℕ) = (j : ℕ) / 64 % 2 * 512 + (j : ℕ) / 128 * 64 + (j : ℕ) % 64) :
    val_main_v25 (F := Ideal) x0 x1 w (ix3 0 R j) = u (ix3 ⟨(R : ℕ) / 256, by omega⟩ ⟨(R : ℕ) % 256, by omega⟩ o) * scale := by
  have h : (⟨(j : ℕ) / 64 % 2 * 512 + (j : ℕ) / 128 * 64 + (j : ℕ) % 64, by omega⟩ : Fin 1024) = o := Fin.ext e.symm
  rw [← h]
  unfold val_main_v25 val_main_v20 val_main_v18 val_main_v17 val_main_v16
  rw [hu]
  pointwise! [val_main_v19, val_main_cst_0, scale]

/-- The queries at an index. -/
theorem queries (R : Fin 4096) (j : Fin 1024) : val_main_v25 (F := Ideal) x0 x1 w (ix3 0 R j)
    = times (ctxRow x0 x1 ⟨(R : ℕ) / 256, by omega⟩ ⟨(R : ℕ) % 256, by omega⟩) (fun k l => w (ix3 0 k l)) (Cert.Post.order j) * scale := by
  rw [← LaterRef.v15]
  exact queries_lane x0 x1 w _ (v15 x0 x1 w) R j _ rfl

/-- The keys at an index. -/
theorem keys (R : Fin 4096) (j : Fin 128) : val_main_v27 (F := Ideal) x0 x1 v (ix3 0 R j)
    = times (ctxRow x0 x1 ⟨(R : ℕ) / 256, by omega⟩ ⟨(R : ℕ) % 256, by omega⟩) (fun k l => v (ix3 0 k l)) j := by
  rw [← v22]
  unfold val_main_v27 val_main_v26
  generalize val_main_v22 (F := Ideal) x0 x1 v = u
  pointwise!

/-- The values are the same function of their weights. -/
theorem values_eq : val_main_v29 (F := Ideal) x0 x1 v = val_main_v27 (F := Ideal) x0 x1 v := rfl

end ZeroRef

end Cert.Proj.Ctx

end
-- ==== Proof.CtxProjVal.lean ====
module

public import proofs.«01_k».proof.Proof.CtxProjBlock
public import proofs.«01_k».proof.Proof.CtxProjRef

@[expose] public section

set_option maxRecDepth 16384

/-! The output arrays of the context's projections as the references' results over the argument arrays. -/

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen

/-- Where each window's block lies at grid point `t`: row tile `t` of the one batch, the modulation and the weights whole. -/
theorem idx : ∀ t : Fin cfg0.N, win0_0.index t = ![0, (t : ℕ), 0] ∧ win0_1.index t = ![0, 0, 0]
    ∧ win0_2.index t = ![0, 0] ∧ win0_3.index t = ![0, 0] ∧ win0_4.index t = ![0, (t : ℕ), 0] ∧ win0_5.index t = ![0, (t : ℕ), 0] :=
  (by decide +kernel : ∀ t : Fin grid0.N, _)

variable (m : (ℓ : Loc nD τ sig) → Buf (Elt Ideal) ℓ) (c : Dev nD)

/-- The modulated row of a block is the one of its context. -/
theorem row_eq (t : Fin cfg0.N) (ht : (t : ℕ) < 8) (r : Fin 512) : Cert.Proj.Ctx.blockRow (iblk m c 0 t) (iblk m c 1 t) r
    = Cert.Proj.Ctx.ctxRow (m ((c : Thread nD τ).loc main_arg0)) (m ((c : Thread nD τ).loc main_arg1))
        (⟨((t : ℕ) * 512 + r) / 256, by omega⟩ : Fin 16) (⟨((t : ℕ) * 512 + r) % 256, by omega⟩ : Fin 256) := by
  unfold Cert.Proj.Ctx.blockRow Cert.Proj.Ctx.ctxRow
  congr 1 <;> funext k <;> blk_point [iblk, V, idx t]

/-- The keys' weights. -/
theorem wk_eq (t : Fin cfg0.N) (k l : Fin 1024) :
    (iblk m c 2 t : Vec Ideal S1024x1024 .bf16) (ix2 k l) = m ((c : Thread nD τ).loc main_arg2) (ix3 0 k l) := by
  blk_point [iblk, V, idx t]

/-- The values' weights. -/
theorem wv_eq (t : Fin cfg0.N) (k l : Fin 1024) :
    (iblk m c 3 t : Vec Ideal S1024x1024 .bf16) (ix2 k l) = m ((c : Thread nD τ).loc main_arg3) (ix3 0 k l) := by
  blk_point [iblk, V, idx t]

/-- The keys' array is the reference's, read over the argument arrays. -/
theorem final4 : (dats m 0 c).arrAt 4 cfg0.N
    = Cert.Reference7Ideal.Read.val_main_v19 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  idx_vars y
  obtain rfl : y0 = 0 := Subsingleton.elim _ _
  have ht : (t : ℕ) < 8 := t.isLt
  refine (Cert.Proj.Ctx.Later.block4 _ _ _ _ y1 y2).trans (Eq.trans ?_ ((congrArg _ (?_ : _ = ix3 (0 : Fin 1)
    (⟨(t : ℕ) * 512 + y1, by omega⟩ : Fin 4096) y2)).trans (Cert.Proj.Ctx.LaterRef.keys _ _ _ _ _)).symm)
  · rw [row_eq m c t ht y1, show (fun k l => (iblk m c 2 t : Vec Ideal S1024x1024 .bf16) (ix2 k l)) = _ from funext fun k => funext fun l => wk_eq m c t k l]
  · blk_ext [idx t]

/-- The values' array is the reference's, read over the argument arrays. -/
theorem final5 : (dats m 0 c).arrAt 5 cfg0.N
    = Cert.Reference7Ideal.Read.val_main_v21 (F := Ideal) (m ((c : Thread nD τ).loc main_arg0)) (m ((c : Thread nD τ).loc main_arg1))
        (m ((c : Thread nD τ).loc main_arg3)) := by
  rw [Cert.Proj.Ctx.LaterRef.values_eq]
  refine (dats m 0 c).arrAt_eq_of_covers 5 _ (by decide +kernel) fun t _ y => ?_
  blk_simp
  rw [after0_5]
  idx_vars y
  obtain rfl : y0 = 0 := Subsingleton.elim _ _
  have ht : (t : ℕ) < 8 := t.isLt
  refine (Cert.Proj.Ctx.Later.block5 _ _ _ _ y1 y2).trans (Eq.trans ?_ ((congrArg _ (?_ : _ = ix3 (0 : Fin 1)
    (⟨(t : ℕ) * 512 + y1, by omega⟩ : Fin 4096) y2)).trans (Cert.Proj.Ctx.LaterRef.keys _ _ _ _ _)).symm)
  · rw [row_eq m c t ht y1, show (fun k l => (iblk m c 3 t : Vec Ideal S1024x1024 .bf16) (ix2 k l)) = _ from funext fun k => funext fun l => wv_eq m c t k l]
  · blk_ext [idx t]

end Cert.Kernel7Ideal.Value

namespace Cert.Kernel8Ideal.Value

open Idealize.ShloMosaic Idealize.ShloMosaic.TcCoe Idealize.SL.Sem
open Idealize.ShloMosaic.Pipeline (Dat)
open Cert.Kernel8Ideal Cert.Kernel8Ideal.Gen

/-- Where each window's block lies at grid point `t`: row tile `t` of the one batch, the modulation and the weights whole. -/
theorem idx : ∀ t : Fin cfg0.N, win0_0.index t = ![0, (t : ℕ), 0] ∧ win0_1.index t = ![0, 0, 0]
    ∧ win0_2.index t = ![0, 0] ∧ win0_3.index t = ![0, 0] ∧ win0_4.index t = ![0, 0] ∧ win0_5.index t = ![0, (t : ℕ), 0]
    ∧ win0_6.index t = ![0, (t : ℕ), 0] ∧ win0_7.index t = ![0, (t : ℕ), 0] :=
  (by decide +kernel : ∀ t : Fin grid0.N, _)

variable (m : (ℓ : Loc nD τ sig) → Buf (Elt Ideal) ℓ) (c : Dev nD)

/-- The modulated row of a block is the one of its context. -/
theorem row_eq (t : Fin cfg0.N) (ht : (t : ℕ) < 8) (r : Fin 512) : Cert.Proj.Ctx.blockRow (iblk m c 0 t) (iblk m c 1 t) r
    = Cert.Proj.Ctx.ctxRow (m ((c : Thread nD τ).loc main_arg0)) (m ((c : Thread nD τ).loc main_arg1))
        (⟨((t : ℕ) * 512 + r) / 256, by omega⟩ : Fin 16) (⟨((t : ℕ) * 512 + r) % 256, by omega⟩ : Fin 256) := by
  unfold Cert.Proj.Ctx.blockRow Cert.Proj.Ctx.ctxRow
  congr 1 <;> funext k <;> blk_point [iblk, V, idx t]

/-- The queries' weights, in the kernel's order of the heads. -/
theorem wq_eq (t : Fin cfg0.N) (k l : Fin 1024) :
    (iblk m c 2 t : Vec Ideal S1024x1024 .bf16) (ix2 k l) = m ((c : Thread nD τ).loc main_arg2) (ix3 0 k (Cert.Post.order l)) := by
  blk_point [iblk, V, idx t]
  rfl

/-- The keys' weights. -/
theorem wk_eq (t : Fin cfg0.N) (k : Fin 1024) (l : Fin 128) :
    (iblk m c 3 t : Vec Ideal S1024x128 .bf16) (ix2 k l) = m ((c : Thread nD τ).loc main_arg3) (ix3 0 k l) := by
  blk_point [iblk, V, idx t]

/-- The values' weights. -/
theorem wv_eq (t : Fin cfg0.N) (k : Fin 1024) (l : Fin 128) :
    (iblk m c 4 t : Vec Ideal S1024x128 .bf16) (ix2 k l) = m ((c : Thread nD τ).loc main_arg4) (ix3 0 k l) := by
  blk_point [iblk, V, idx t]

/-- The queries' array is the reference's, read over the argument arrays. -/
theorem final5 : (dats m 0 c).arrAt 5 cfg0.N
    = Cert.Reference8Ideal.Read.val_main_v25 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  idx_vars y
  obtain rfl : y0 = 0 := Subsingleton.elim _ _
  have ht : (t : ℕ) < 8 := t.isLt
  refine (Cert.Proj.Ctx.Zero.block5 _ _ _ _ _ y1 y2).trans (Eq.trans ?_ ((congrArg _ (?_ : _ = ix3 (0 : Fin 1)
    (⟨(t : ℕ) * 512 + y1, by omega⟩ : Fin 4096) y2)).trans (Cert.Proj.Ctx.ZeroRef.queries _ _ _ _ _)).symm)
  · rw [row_eq m c t ht y1, show (fun k l => (iblk m c 2 t : Vec Ideal S1024x1024 .bf16) (ix2 k l)) = _ from funext fun k => funext fun l => wq_eq m c t k l]
    rfl
  · blk_ext [idx t]

/-- The keys' array is the reference's, read over the argument arrays. -/
theorem final6 : (dats m 0 c).arrAt 6 cfg0.N
    = Cert.Reference8Ideal.Read.val_main_v27 (F := Ideal) (m ((c : Thread nD τ).loc main_arg0)) (m ((c : Thread nD τ).loc main_arg1))
        (m ((c : Thread nD τ).loc main_arg3)) := by
  refine (dats m 0 c).arrAt_eq_of_covers 6 _ (by decide +kernel) fun t _ y => ?_
  blk_simp
  rw [after0_6]
  idx_vars y
  obtain rfl : y0 = 0 := Subsingleton.elim _ _
  have ht : (t : ℕ) < 8 := t.isLt
  refine (Cert.Proj.Ctx.Zero.block6 _ _ _ _ _ y1 y2).trans (Eq.trans ?_ ((congrArg _ (?_ : _ = ix3 (0 : Fin 1)
    (⟨(t : ℕ) * 512 + y1, by omega⟩ : Fin 4096) y2)).trans (Cert.Proj.Ctx.ZeroRef.keys _ _ _ _ _)).symm)
  · rw [row_eq m c t ht y1, show (fun k l => (iblk m c 3 t : Vec Ideal S1024x128 .bf16) (ix2 k l)) = _ from funext fun k => funext fun l => wk_eq m c t k l]
  · blk_ext [idx t]

/-- The values' array is the reference's, read over the argument arrays. -/
theorem final7 : (dats m 0 c).arrAt 7 cfg0.N
    = Cert.Reference8Ideal.Read.val_main_v29 (F := Ideal) (m ((c : Thread nD τ).loc main_arg0)) (m ((c : Thread nD τ).loc main_arg1))
        (m ((c : Thread nD τ).loc main_arg4)) := by
  rw [Cert.Proj.Ctx.ZeroRef.values_eq]
  refine (dats m 0 c).arrAt_eq_of_covers 7 _ (by decide +kernel) fun t _ y => ?_
  blk_simp
  rw [after0_7]
  idx_vars y
  obtain rfl : y0 = 0 := Subsingleton.elim _ _
  have ht : (t : ℕ) < 8 := t.isLt
  refine (Cert.Proj.Ctx.Zero.block7 _ _ _ _ _ y1 y2).trans (Eq.trans ?_ ((congrArg _ (?_ : _ = ix3 (0 : Fin 1)
    (⟨(t : ℕ) * 512 + y1, by omega⟩ : Fin 4096) y2)).trans (Cert.Proj.Ctx.ZeroRef.keys _ _ _ _ _)).symm)
  · rw [row_eq m c t ht y1, show (fun k l => (iblk m c 4 t : Vec Ideal S1024x128 .bf16) (ix2 k l)) = _ from funext fun k => funext fun l => wv_eq m c t k l]
  · blk_ext [idx t]

end Cert.Kernel8Ideal.Value

end
-- ==== Proof.LaterTwin.lean ====
module

public import proofs.«01_k».proof.Defs
public import proofs.«01_k».proof.Proof.Gen.Kernel7
public import proofs.«01_k».proof.Proof.Gen.Kernel7Ideal.Frame

@[expose] public section

set_option maxRecDepth 16384

/-! The kernel of the context's projection in layer 1 on the machine's floats has the same text as its idealization: one run serves both frames. -/

noncomputable section

namespace Cert.Kernel7.Twin

open Idealize.ShloMosaic Idealize.SL.Sem

/-- The two body tables agree, label by label. -/
theorem bodies : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | 0, (t, s) => rfl

/-- So do the tables with the pipelines added. -/
theorem tables : Cert.Kernel7.defs (F := Bits) = Cert.Kernel7Ideal.defs (F := Bits) :=
  congrArg (Pipeline.defs (Cert.Kernel7Ideal.pcfgs (F := Bits))) bodies

set_option maxHeartbeats 2000000 in
/-- The kernel runs, leaves its arguments as they were, and every semaphore at zero. -/
theorem frame : Cert.quiescent_Kernel7 := fun m ρ _ => by
  rw [tables]
  exact Cert.Kernel7Ideal.Gen.frame (F := Bits) m ρ

end Cert.Kernel7.Twin

end
-- ==== Proof.BeginTwin.lean ====
module

public import proofs.«01_k».proof.Defs
public import proofs.«01_k».proof.Proof.Gen.Kernel8
public import proofs.«01_k».proof.Proof.Gen.Kernel8Ideal.Frame

@[expose] public section

set_option maxRecDepth 16384

/-! The kernel of the context's projection in layer 0 on the machine's floats has the same text as its idealization: one run serves both frames. -/

noncomputable section

namespace Cert.Kernel8.Twin

open Idealize.ShloMosaic Idealize.SL.Sem

/-- The two body tables agree, label by label. -/
theorem bodies : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | 0, (t, s) => rfl

/-- So do the tables with the pipelines added. -/
theorem tables : Cert.Kernel8.defs (F := Bits) = Cert.Kernel8Ideal.defs (F := Bits) :=
  congrArg (Pipeline.defs (Cert.Kernel8Ideal.pcfgs (F := Bits))) bodies

set_option maxHeartbeats 2000000 in
/-- The kernel runs, leaves its arguments as they were, and every semaphore at zero. -/
theorem frame : Cert.quiescent_Kernel8 := fun m ρ _ => by
  rw [tables]
  exact Cert.Kernel8Ideal.Gen.frame (F := Bits) m ρ

end Cert.Kernel8.Twin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.PostVal
public import proofs.«01_k».proof.Proof.PostTwin
public import proofs.«01_k».proof.Proof.AttnVal
public import proofs.«01_k».proof.Proof.ProjVal
public import proofs.«01_k».proof.Proof.ProjTwin
public import proofs.«01_k».proof.Proof.ZeroVal
public import proofs.«01_k».proof.Proof.ZeroTwin
public import proofs.«01_k».proof.Proof.CtxVal
public import proofs.«01_k».proof.Proof.CtxTwin
public import proofs.«01_k».proof.Proof.FirstVal
public import proofs.«01_k».proof.Proof.FirstTwin
public import proofs.«01_k».proof.Proof.CtxProjVal
public import proofs.«01_k».proof.Proof.LaterTwin
public import proofs.«01_k».proof.Proof.BeginTwin
public import Idealize.ShloMosaic.Lib.Claim
public import Idealize.ShloMosaic.Adequacy
public import Idealize.ShloMosaic.Init

@[expose] public section

noncomputable section

namespace Cert.Proof

open Idealize.ShloMosaic Idealize.SL.Sem

/-- The last block's kernel and its reference leave equal arrays. -/
theorem algebraic_post [Cert.Kernel2Ideal.Facts] [Cert.Reference2Ideal.Facts] : Cert.algebraic_Kernel2Ideal_Reference2Ideal := by
  pair_intro
  · run_from Cert.Kernel2Ideal.Value.run_blocks m g
  · run_from Cert.Reference2Ideal.Value.run m' g'
    refine ((?_ : _ = Cert.Reference2Ideal.Read.val_main_v88 (F := Ideal) _ _ _ _ _ _ _ _ _ _).trans (Cert.Kernel2Ideal.Value.final m c).symm)
    obtain ⟨h0, h1, h2, h3, h4, h5, h6, h7, h8, h9⟩ := hagree c
    rw [← h0, ← h1, ← h2, ← h3, ← h4, ← h5, ← h6, ← h7, ← h8, ← h9]
    exact Cert.Reference2Ideal.Read.val_main_v88_eq _

/-- The projection kernel and its reference leave equal arrays of queries, keys and values. -/
theorem algebraic_proj [Cert.Kernel3Ideal.Facts] [Cert.Reference3Ideal.Facts] : Cert.algebraic_Kernel3Ideal_Reference3Ideal := by
  pair_intro
  · run_from Cert.Kernel3Ideal.Value.run_blocks m g
  · run_from Cert.Reference3Ideal.Value.run m' g'
    all_goals obtain ⟨h0, h1, h2, h3, h4⟩ := hagree c
    · refine ((Cert.Reference3Ideal.Read.val_main_v78_eq m' c).trans ?_).trans (Cert.Kernel3Ideal.Value.final7 m c).symm
      rw [← h0, ← h1, ← h2]
    · refine ((Cert.Reference3Ideal.Read.val_main_v80_eq m' c).trans ?_).trans (Cert.Kernel3Ideal.Value.final8 m c).symm
      rw [← h0, ← h1, ← h3]
    · refine ((Cert.Reference3Ideal.Read.val_main_v81_eq _ _ _).trans ?_).trans (Cert.Kernel3Ideal.Value.final9 m c).symm
      rw [← h0, ← h1, ← h4]

/-- Layer 0's block on the activations and its reference leave equal arrays. -/
theorem algebraic_zero [Cert.Kernel4Ideal.Facts] [Cert.Reference4Ideal.Facts] : Cert.algebraic_Kernel4Ideal_Reference4Ideal := by
  pair_intro
  · run_from Cert.Kernel4Ideal.Value.run_blocks m g
  · run_from Cert.Reference4Ideal.Value.run m' g'
    refine ((?_ : _ = Cert.Reference4Ideal.Read.val_main_v91 (F := Ideal) _ _ _ _ _ _ _ _ _ _).trans (Cert.Kernel4Ideal.Value.final m c).symm)
    obtain ⟨h0, h1, h2, h3, h4, h5, h6, h7, h8, h9⟩ := hagree c
    rw [← h0, ← h1, ← h2, ← h3, ← h4, ← h5, ← h6, ← h7, ← h8, ← h9]
    exact Cert.Reference4Ideal.Read.val_main_v91_eq _

/-- Layer 0's block on the context and its reference leave equal arrays. -/
theorem algebraic_ctx [Cert.Kernel5Ideal.Facts] [Cert.Reference5Ideal.Facts] : Cert.algebraic_Kernel5Ideal_Reference5Ideal := by
  pair_intro
  · run_from Cert.Kernel5Ideal.Value.run_blocks m g
  · run_from Cert.Reference5Ideal.Value.run m' g'
    refine ((?_ : _ = Cert.Reference5Ideal.Read.val_main_v95 (F := Ideal) _ _ _ _ _ _ _ _ _ _).trans (Cert.Kernel5Ideal.Value.final m c).symm)
    obtain ⟨h0, h1, h2, h3, h4, h5, h6, h7, h8, h9⟩ := hagree c
    rw [← h0, ← h1, ← h2, ← h3, ← h4, ← h5, ← h6, ← h7, ← h8, ← h9]
    exact Cert.Reference5Ideal.Read.val_main_v95_eq _

/-- Layer 0's projection kernel and its reference leave equal arrays of queries, keys and values. -/
theorem algebraic_first [Cert.Kernel6Ideal.Facts] [Cert.Reference6Ideal.Facts] : Cert.algebraic_Kernel6Ideal_Reference6Ideal := by
  pair_intro
  · run_from Cert.Kernel6Ideal.Value.run_blocks m g
  · run_from Cert.Reference6Ideal.Value.run m' g'
    all_goals obtain ⟨h0, h1, h2, h3, h4⟩ := hagree c
    · refine ((Cert.Reference6Ideal.Read.val_main_v81_eq m' c).trans ?_).trans (Cert.Kernel6Ideal.Value.final7 m c).symm
      rw [← h0, ← h1, ← h2]
    · refine ((Cert.Reference6Ideal.Read.val_main_v83_eq m' c).trans ?_).trans (Cert.Kernel6Ideal.Value.final8 m c).symm
      rw [← h0, ← h1, ← h3]
    · refine ((Cert.Reference6Ideal.Read.val_main_v84_eq _ _ _).trans ?_).trans (Cert.Kernel6Ideal.Value.final9 m c).symm
      rw [← h0, ← h1, ← h4]

/-- The kernel of the context's keys and values for layer 1 and its reference leave equal arrays. -/
theorem algebraic_later [Cert.Kernel7Ideal.Facts] [Cert.Reference7Ideal.Facts] : Cert.algebraic_Kernel7Ideal_Reference7Ideal := by
  pair_intro
  · run_from Cert.Kernel7Ideal.Value.run_blocks m g
  · run_from Cert.Reference7Ideal.Value.run m' g'
    all_goals obtain ⟨h0, h1, h2, h3⟩ := hagree c
    · refine ((Cert.Reference7Ideal.Read.val_main_v19_eq _ _ _).trans ?_).trans (Cert.Kernel7Ideal.Value.final4 m c).symm
      rw [← h0, ← h1, ← h2]
    · refine ((Cert.Reference7Ideal.Read.val_main_v21_eq _ _ _).trans ?_).trans (Cert.Kernel7Ideal.Value.final5 m c).symm
      rw [← h0, ← h1, ← h3]

/-- The kernel of the context's queries, keys and values for layer 0 and its reference leave equal arrays. -/
theorem algebraic_begin [Cert.Kernel8Ideal.Facts] [Cert.Reference8Ideal.Facts] : Cert.algebraic_Kernel8Ideal_Reference8Ideal := by
  pair_intro
  · run_from Cert.Kernel8Ideal.Value.run_blocks m g
  · run_from Cert.Reference8Ideal.Value.run m' g'
    all_goals obtain ⟨h0, h1, h2, h3, h4⟩ := hagree c
    · refine ((Cert.Reference8Ideal.Read.val_main_v25_eq _ _ _).trans ?_).trans (Cert.Kernel8Ideal.Value.final5 m c).symm
      rw [← h0, ← h1, ← h2]
    · refine ((Cert.Reference8Ideal.Read.val_main_v27_eq _ _ _).trans ?_).trans (Cert.Kernel8Ideal.Value.final6 m c).symm
      rw [← h0, ← h1, ← h3]
    · refine ((Cert.Reference8Ideal.Read.val_main_v29_eq _ _ _).trans ?_).trans (Cert.Kernel8Ideal.Value.final7 m c).symm
      rw [← h0, ← h1, ← h4]

/-- On finite activations and lambda vectors the attention kernel and its reference leave equal arrays. -/
theorem algebraic_attn [Cert.KernelIdeal.Facts] [Cert.ReferenceIdeal.Facts] [Cert.Pre_finite.Facts] :
    Cert.algebraic_KernelIdeal_ReferenceIdeal_pre_finite := by
  pair_intro
  · run_from Cert.KernelIdeal.Value.run_blocks m g
  · run_from Cert.ReferenceIdeal.Value.run m' g'
    refine ((?_ : _ = Cert.ReferenceIdeal.Read.val_main_v59 (F := Ideal) _ _ _ _ _ _ _ _ _ _).trans
      (Cert.KernelIdeal.Value.final m c (Cert.Attn.finite_of_pre m hpre c)).symm)
    obtain ⟨h0, h1, h2, h3, h4, h5, h6, h7, h8, h9⟩ := hagree c
    rw [← h0, ← h1, ← h2, ← h3, ← h4, ← h5, ← h6, ← h7, ← h8, ← h9]
    exact Cert.ReferenceIdeal.Read.val_main_v59_eq _ _

/-- The attention reference's run. -/
theorem quiet_attn [Cert.ReferenceIdeal.Facts] : Cert.quiescent_ReferenceIdeal := fun m g _ =>
  (θ_run Cert.ReferenceIdeal.defs _ _).mono (fun _ h => ⟨fun c => (h c).2, sem_eq_zero_of_no_sems rfl _⟩) (Cert.ReferenceIdeal.Value.run m g)

/-- The last block's reference's run. -/
theorem quiet_post [Cert.Reference2Ideal.Facts] : Cert.quiescent_Reference2Ideal := fun m g _ =>
  (θ_run Cert.Reference2Ideal.defs _ _).mono (fun _ h => ⟨fun c => (h c).2, sem_eq_zero_of_no_sems rfl _⟩) (Cert.Reference2Ideal.Value.run m g)

/-- The projection reference's run. -/
theorem quiet_proj [Cert.Reference3Ideal.Facts] : Cert.quiescent_Reference3Ideal := fun m g _ =>
  (θ_run Cert.Reference3Ideal.defs _ _).mono (fun _ h => ⟨fun c => (h c).2.2.2, sem_eq_zero_of_no_sems rfl _⟩)
    (Cert.Reference3Ideal.Value.run m g)

/-- The run of the reference of layer 0's block on the activations. -/
theorem quiet_zero [Cert.Reference4Ideal.Facts] : Cert.quiescent_Reference4Ideal := fun m g _ =>
  (θ_run Cert.Reference4Ideal.defs _ _).mono (fun _ h => ⟨fun c => (h c).2, sem_eq_zero_of_no_sems rfl _⟩)
    (Cert.Reference4Ideal.Value.run m g)

/-- The run of the reference of layer 0's block on the context. -/
theorem quiet_ctx [Cert.Reference5Ideal.Facts] : Cert.quiescent_Reference5Ideal := fun m g _ =>
  (θ_run Cert.Reference5Ideal.defs _ _).mono (fun _ h => ⟨fun c => (h c).2, sem_eq_zero_of_no_sems rfl _⟩)
    (Cert.Reference5Ideal.Value.run m g)

/-- The run of layer 0's projection reference. -/
theorem quiet_first [Cert.Reference6Ideal.Facts] : Cert.quiescent_Reference6Ideal := fun m g _ =>
  (θ_run Cert.Reference6Ideal.defs _ _).mono (fun _ h => ⟨fun c => (h c).2.2.2, sem_eq_zero_of_no_sems rfl _⟩)
    (Cert.Reference6Ideal.Value.run m g)

/-- The run of the reference of the context's keys and values for layer 1. -/
theorem quiet_later [Cert.Reference7Ideal.Facts] : Cert.quiescent_Reference7Ideal := fun m g _ =>
  (θ_run Cert.Reference7Ideal.defs _ _).mono (fun _ h => ⟨fun c => (h c).2.2, sem_eq_zero_of_no_sems rfl _⟩)
    (Cert.Reference7Ideal.Value.run m g)

/-- The run of the reference of the context's queries, keys and values for layer 0. -/
theorem quiet_begin [Cert.Reference8Ideal.Facts] : Cert.quiescent_Reference8Ideal := fun m g _ =>
  (θ_run Cert.Reference8Ideal.defs _ _).mono (fun _ h => ⟨fun c => (h c).2.2.2, sem_eq_zero_of_no_sems rfl _⟩)
    (Cert.Reference8Ideal.Value.run m g)

/-- Every claim of the certificate. -/
theorem claim : Cert.Claim := by
  letI := Cert.ReferenceIdeal.Gen.facts
  letI := Cert.Reference2Ideal.Gen.facts
  letI := Cert.Reference3Ideal.Gen.facts
  letI := Cert.Reference4Ideal.Gen.facts
  letI := Cert.Reference5Ideal.Gen.facts
  letI := Cert.Reference6Ideal.Gen.facts
  letI := Cert.Reference7Ideal.Gen.facts
  letI := Cert.Reference8Ideal.Gen.facts
  letI := Cert.KernelIdeal.Gen.facts
  letI : Cert.Pre_finite.Facts := ⟨by decide, by decide, by decide⟩
  exact ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    inferInstance, fun m ρ _ => Cert.Kernel.Gen.frame m ρ,
    fun m ρ _ => Cert.KernelIdeal.Gen.frame m ρ, fun m ρ _ => Cert.KernelIdeal.Gen.frame m ρ, quiet_attn, fun m g _ => quiet_attn m g trivial,
    Cert.Kernel2.Twin.frame, fun m ρ _ => Cert.Kernel2Ideal.Gen.frame m ρ, quiet_post,
    Cert.Kernel3.Twin.frame, fun m ρ _ => Cert.Kernel3Ideal.Gen.frame m ρ, quiet_proj,
    Cert.Kernel4.Twin.frame, fun m ρ _ => Cert.Kernel4Ideal.Gen.frame m ρ, quiet_zero,
    Cert.Kernel5.Twin.frame, fun m ρ _ => Cert.Kernel5Ideal.Gen.frame m ρ, quiet_ctx,
    Cert.Kernel6.Twin.frame, fun m ρ _ => Cert.Kernel6Ideal.Gen.frame m ρ, quiet_first,
    Cert.Kernel7.Twin.frame, fun m ρ _ => Cert.Kernel7Ideal.Gen.frame m ρ, quiet_later,
    Cert.Kernel8.Twin.frame, fun m ρ _ => Cert.Kernel8Ideal.Gen.frame m ρ, quiet_begin,
    IdealRules.named_const.statement Cert.KernelIdeal.κ "qk_scale" .f32 0x3E38AA3B#32 _ rfl, algebraic_attn, trivial, algebraic_post,
    trivial, algebraic_proj, trivial, algebraic_zero, trivial, algebraic_ctx, trivial, algebraic_first,
    trivial, algebraic_later, trivial, algebraic_begin⟩

end Cert.Proof

end
